-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v366)) (v1 : (c : Dev Cert.KernelIdeal.nD) → Buf (Elt Ideal) ((c.tc : Thread Cert.KernelIdeal.nD Cert.KernelIdeal.τ).loc Cert.KernelIdeal.main_v367)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_arg2)) (v4 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v366) = v0 c
          ∧ r.2.mem ((c.tc : Thread Cert.KernelIdeal.nD Cert.KernelIdeal.τ).loc Cert.KernelIdeal.main_v367) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v706) = v0 c
          ∧ r.2.mem ((c.tc : Thread Cert.ReferenceIdeal.nD Cert.ReferenceIdeal.τ).loc Cert.ReferenceIdeal.main_v331) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x2 : Shape := ⟨2, ![1000000, 2]⟩
abbrev S1000000x4x4 : Shape := ⟨3, ![1000000, 4, 4]⟩
abbrev S1000000x4x2 : Shape := ⟨3, ![1000000, 4, 2]⟩
abbrev S1000000x4x2x2 : Shape := ⟨4, ![1000000, 4, 2, 2]⟩
abbrev S2 : Shape := ⟨1, ![2]⟩
abbrev S4x2 : Shape := ⟨2, ![4, 2]⟩
abbrev S4 : Shape := ⟨1, ![4]⟩
abbrev S4x4 : Shape := ⟨2, ![4, 4]⟩
abbrev S_ : Shape := ⟨0, ![]⟩
abbrev S1 : Shape := ⟨1, ![1]⟩
abbrev S2x2 : Shape := ⟨2, ![2, 2]⟩
abbrev S1x2 : Shape := ⟨2, ![1, 2]⟩
abbrev S4x1 : Shape := ⟨2, ![4, 1]⟩
abbrev S1x4 : Shape := ⟨2, ![1, 4]⟩
abbrev S1x1 : Shape := ⟨2, ![1, 1]⟩
abbrev S125x125x128 : Shape := ⟨3, ![125, 125, 128]⟩
abbrev S125x500x128 : Shape := ⟨3, ![125, 500, 128]⟩
abbrev S125x1000x128 : Shape := ⟨3, ![125, 1000, 128]⟩
abbrev S125x125x64 : Shape := ⟨3, ![125, 125, 64]⟩
abbrev S1x125x128 : Shape := ⟨3, ![1, 125, 128]⟩
abbrev S1x500x128 : Shape := ⟨3, ![1, 500, 128]⟩
abbrev S1x1000x128 : Shape := ⟨3, ![1, 1000, 128]⟩
abbrev S1x125x64 : Shape := ⟨3, ![1, 125, 64]⟩
abbrev S125x128 : Shape := ⟨2, ![125, 128]⟩
abbrev S125x127 : Shape := ⟨2, ![125, 127]⟩
abbrev S125x1 : Shape := ⟨2, ![125, 1]⟩
abbrev S500x128 : Shape := ⟨2, ![500, 128]⟩
abbrev S125x4x32x4 : Shape := ⟨4, ![125, 4, 32, 4]⟩
abbrev S125x4x32x1 : Shape := ⟨4, ![125, 4, 32, 1]⟩
abbrev S125x4x32 : Shape := ⟨3, ![125, 4, 32]⟩
abbrev S1000x128 : Shape := ⟨2, ![1000, 128]⟩
abbrev S125x8x16x8 : Shape := ⟨4, ![125, 8, 16, 8]⟩
abbrev S125x8x16x1 : Shape := ⟨4, ![125, 8, 16, 1]⟩
abbrev S125x8x16 : Shape := ⟨3, ![125, 8, 16]⟩
abbrev S128x64 : Shape := ⟨2, ![128, 64]⟩
abbrev S125x64 : Shape := ⟨2, ![125, 64]⟩
abbrev S1000000 : Shape := ⟨1, ![1000000]⟩

abbrev nBuf : Space → Nat
  | .hbm => 493
  | .vmem => 16
  | .smem => 2
  | _ => 0

abbrev hbmTy0_0 (i : Nat) : BufTy := match i % 128 with
  | 0 => ⟨S1000000x2, .f32⟩
  | 1 => ⟨S1000000x4x4, .f32⟩
  | 2 => ⟨S1000000x4x2, .f32⟩
  | 3 => ⟨S1000000x4x2x2, .f32⟩
  | 4 => ⟨S2, .f32⟩
  | 5 => ⟨S4x2, .f32⟩
  | 6 => ⟨S4, .f32⟩
  | 7 => ⟨S4x4, .f32⟩
  | 8 => ⟨S4, .f32⟩
  | 9 => ⟨S_, .i32⟩
  | 10 => ⟨S_, .i32⟩
  | 11 => ⟨S_, .i32⟩
  | 12 => ⟨S_, .i32⟩
  | 13 => ⟨S1, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S_, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S1000000x2, .f32⟩

abbrev hbmTy0_1 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S_, .i32⟩
  | 24 => ⟨S1, .i32⟩
  | 25 => ⟨S1, .i32⟩
  | 26 => ⟨S_, .i32⟩
  | 27 => ⟨S1, .i32⟩
  | 28 => ⟨S1, .i32⟩
  | 29 => ⟨S_, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S_, .i32⟩
  | 118 => ⟨S1, .i32⟩
  | 119 => ⟨S1, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S1, .i32⟩
  | 127 => ⟨S1, .i32⟩
  | _ => ⟨S1000000x2, .f32⟩

abbrev hbmTy0_2 (i : Nat) : BufTy := match i % 128 with
  | 0 => ⟨S_, .i32⟩
  | 1 => ⟨S1, .i32⟩
  | 2 => ⟨S1, .i32⟩
  | 3 => ⟨S1, .i32⟩
  | 4 => ⟨S_, .i32⟩
  | 5 => ⟨S1, .i32⟩
  | 6 => ⟨S1, .i32⟩
  | 7 => ⟨S_, .i32⟩
  | 8 => ⟨S1, .i32⟩
  | 9 => ⟨S1, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S_, .i32⟩
  | 17 => ⟨S1, .i32⟩
  | 18 => ⟨S1, .i32⟩
  | 19 => ⟨S1, .i32⟩
  | 20 => ⟨S1, .i32⟩
  | 21 => ⟨S1, .i32⟩
  | 22 => ⟨S_, .i32⟩
  | 23 => ⟨S1, .i32⟩
  | 24 => ⟨S1, .i32⟩
  | 25 => ⟨S_, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S_, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S1, .i32⟩
  | 65 => ⟨S1, .i32⟩
  | 66 => ⟨S_, .i32⟩
  | 67 => ⟨S1, .i32⟩
  | 68 => ⟨S1, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S_, .i32⟩
  | _ => ⟨S1000000x2, .f32⟩

abbrev hbmTy0_3 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S_, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S4, .i32⟩
  | 97 => ⟨S2x2, .i32⟩
  | 98 => ⟨S1x2, .f32⟩
  | 99 => ⟨S4x1, .f32⟩
  | 100 => ⟨S4x1, .f32⟩
  | 101 => ⟨S4x1, .f32⟩
  | 102 => ⟨S125x125x128, .f32⟩
  | 103 => ⟨S125x500x128, .f32⟩
  | 104 => ⟨S125x1000x128, .f32⟩
  | 105 => ⟨S125x125x128, .f32⟩
  | 106 => ⟨S125x125x64, .i32⟩
  | 107 => ⟨S1000000x2, .f32⟩
  | 108 => ⟨S1000000, .i32⟩
  | _ => ⟨S1000000x2, .f32⟩

abbrev hbmTy (i : Nat) : BufTy := match i / 128 with
  | 0 => hbmTy0_0 i
  | 1 => hbmTy0_1 i
  | 2 => hbmTy0_2 i
  | 3 => hbmTy0_3 i
  | _ => ⟨S1000000x2, .f32⟩

abbrev bufTy : (tb : Table) → Fin (tcTables nBuf tb) → BufTy
  | .hbm, ⟨i, _⟩ => hbmTy i
  | .local _ .vmem, ⟨0, _⟩ => ⟨S1x2, .f32⟩
  | .local _ .vmem, ⟨1, _⟩ => ⟨S4x2, .f32⟩
  | .local _ .vmem, ⟨2, _⟩ => ⟨S4x1, .f32⟩
  | .local _ .vmem, ⟨3, _⟩ => ⟨S4x4, .f32⟩
  | .local _ .vmem, ⟨4, _⟩ => ⟨S4x1, .f32⟩
  | .local _ .vmem, ⟨5, _⟩ => ⟨S4x1, .f32⟩
  | .local _ .vmem, ⟨6, _⟩ => ⟨S1x125x128, .f32⟩
  | .local _ .vmem, ⟨7, _⟩ => ⟨S1x125x128, .f32⟩
  | .local _ .vmem, ⟨8, _⟩ => ⟨S1x500x128, .f32⟩
  | .local _ .vmem, ⟨9, _⟩ => ⟨S1x500x128, .f32⟩
  | .local _ .vmem, ⟨10, _⟩ => ⟨S1x1000x128, .f32⟩
  | .local _ .vmem, ⟨11, _⟩ => ⟨S1x1000x128, .f32⟩
  | .local _ .vmem, ⟨12, _⟩ => ⟨S1x125x128, .f32⟩
  | .local _ .vmem, ⟨13, _⟩ => ⟨S1x125x128, .f32⟩
  | .local _ .vmem, ⟨14, _⟩ => ⟨S1x125x64, .i32⟩
  | .local _ .vmem, ⟨15, _⟩ => ⟨S1x125x64, .i32⟩
  | .local _ .smem, ⟨0, _⟩ => ⟨S4x1, .f32⟩
  | .local _ .smem, ⟨1, _⟩ => ⟨S2x2, .i32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_c_1 : Ref sig .tc := ⟨.hbm, 16, rfl⟩
abbrev main_c_2 : Ref sig .tc := ⟨.hbm, 17, rfl⟩
abbrev main_v4 : Ref sig .tc := ⟨.hbm, 18, rfl⟩
abbrev main_c_3 : Ref sig .tc := ⟨.hbm, 19, rfl⟩
abbrev main_v5 : Ref sig .tc := ⟨.hbm, 20, rfl⟩
abbrev main_c_4 : Ref sig .tc := ⟨.hbm, 21, rfl⟩
abbrev main_v6 : Ref sig .tc := ⟨.hbm, 22, rfl⟩
abbrev main_v7 : Ref sig .tc := ⟨.hbm, 23, rfl⟩
abbrev main_c_5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_6 : Ref sig .tc := ⟨.hbm, 28, rfl⟩
abbrev main_v11 : Ref sig .tc := ⟨.hbm, 29, rfl⟩
abbrev main_v12 : Ref sig .tc := ⟨.hbm, 30, rfl⟩
abbrev main_c_7 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_8 : Ref sig .tc := ⟨.hbm, 37, rfl⟩
abbrev main_v18 : Ref sig .tc := ⟨.hbm, 38, rfl⟩
abbrev main_v19 : Ref sig .tc := ⟨.hbm, 39, rfl⟩
abbrev main_c_9 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_10 : Ref sig .tc := ⟨.hbm, 46, rfl⟩
abbrev main_v25 : Ref sig .tc := ⟨.hbm, 47, rfl⟩
abbrev main_v26 : Ref sig .tc := ⟨.hbm, 48, rfl⟩
abbrev main_c_11 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_12 : Ref sig .tc := ⟨.hbm, 55, rfl⟩
abbrev main_v32 : Ref sig .tc := ⟨.hbm, 56, rfl⟩
abbrev main_v33 : Ref sig .tc := ⟨.hbm, 57, rfl⟩
abbrev main_c_13 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_14 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_15 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_16 : Ref sig .tc := ⟨.hbm, 72, rfl⟩
abbrev main_v45 : Ref sig .tc := ⟨.hbm, 73, rfl⟩
abbrev main_v46 : Ref sig .tc := ⟨.hbm, 74, rfl⟩
abbrev main_c_17 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_18 : Ref sig .tc := ⟨.hbm, 81, rfl⟩
abbrev main_v52 : Ref sig .tc := ⟨.hbm, 82, rfl⟩
abbrev main_v53 : Ref sig .tc := ⟨.hbm, 83, rfl⟩
abbrev main_c_19 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_20 : Ref sig .tc := ⟨.hbm, 90, rfl⟩
abbrev main_v59 : Ref sig .tc := ⟨.hbm, 91, rfl⟩
abbrev main_v60 : Ref sig .tc := ⟨.hbm, 92, rfl⟩
abbrev main_c_21 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_22 : Ref sig .tc := ⟨.hbm, 99, rfl⟩
abbrev main_v66 : Ref sig .tc := ⟨.hbm, 100, rfl⟩
abbrev main_v67 : Ref sig .tc := ⟨.hbm, 101, rfl⟩
abbrev main_c_23 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_24 : Ref sig .tc := ⟨.hbm, 109, rfl⟩
abbrev main_v74 : Ref sig .tc := ⟨.hbm, 110, rfl⟩
abbrev main_v75 : Ref sig .tc := ⟨.hbm, 111, rfl⟩
abbrev main_c_25 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_26 : Ref sig .tc := ⟨.hbm, 116, rfl⟩
abbrev main_v79 : Ref sig .tc := ⟨.hbm, 117, rfl⟩
abbrev main_v80 : Ref sig .tc := ⟨.hbm, 118, rfl⟩
abbrev main_c_27 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_28 : Ref sig .tc := ⟨.hbm, 125, rfl⟩
abbrev main_v86 : Ref sig .tc := ⟨.hbm, 126, rfl⟩
abbrev main_v87 : Ref sig .tc := ⟨.hbm, 127, rfl⟩
abbrev main_c_29 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_30 : Ref sig .tc := ⟨.hbm, 134, rfl⟩
abbrev main_v93 : Ref sig .tc := ⟨.hbm, 135, rfl⟩
abbrev main_v94 : Ref sig .tc := ⟨.hbm, 136, rfl⟩
abbrev main_c_31 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_32 : Ref sig .tc := ⟨.hbm, 143, rfl⟩
abbrev main_v100 : Ref sig .tc := ⟨.hbm, 144, rfl⟩
abbrev main_v101 : Ref sig .tc := ⟨.hbm, 145, rfl⟩
abbrev main_c_33 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_34 : Ref sig .tc := ⟨.hbm, 151, rfl⟩
abbrev main_v106 : Ref sig .tc := ⟨.hbm, 152, rfl⟩
abbrev main_v107 : Ref sig .tc := ⟨.hbm, 153, rfl⟩
abbrev main_c_35 : Ref sig .tc := ⟨.hbm, 154, rfl⟩
abbrev main_v108 : Ref sig .tc := ⟨.hbm, 155, rfl⟩
abbrev main_v109 : Ref sig .tc := ⟨.hbm, 156, rfl⟩
abbrev main_c_36 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_37 : Ref sig .tc := ⟨.hbm, 161, rfl⟩
abbrev main_v113 : Ref sig .tc := ⟨.hbm, 162, rfl⟩
abbrev main_v114 : Ref sig .tc := ⟨.hbm, 163, rfl⟩
abbrev main_c_38 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_c_39 : Ref sig .tc := ⟨.hbm, 170, rfl⟩
abbrev main_v120 : Ref sig .tc := ⟨.hbm, 171, rfl⟩
abbrev main_v121 : Ref sig .tc := ⟨.hbm, 172, rfl⟩
abbrev main_c_40 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_41 : Ref sig .tc := ⟨.hbm, 179, rfl⟩
abbrev main_v127 : Ref sig .tc := ⟨.hbm, 180, rfl⟩
abbrev main_v128 : Ref sig .tc := ⟨.hbm, 181, rfl⟩
abbrev main_c_42 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_c_43 : Ref sig .tc := ⟨.hbm, 188, rfl⟩
abbrev main_v134 : Ref sig .tc := ⟨.hbm, 189, rfl⟩
abbrev main_v135 : Ref sig .tc := ⟨.hbm, 190, rfl⟩
abbrev main_c_44 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_c_45 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_c_46 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_47 : Ref sig .tc := ⟨.hbm, 205, rfl⟩
abbrev main_v147 : Ref sig .tc := ⟨.hbm, 206, rfl⟩
abbrev main_v148 : Ref sig .tc := ⟨.hbm, 207, rfl⟩
abbrev main_c_48 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_c_49 : Ref sig .tc := ⟨.hbm, 214, rfl⟩
abbrev main_v154 : Ref sig .tc := ⟨.hbm, 215, rfl⟩
abbrev main_v155 : Ref sig .tc := ⟨.hbm, 216, rfl⟩
abbrev main_c_50 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_c_51 : Ref sig .tc := ⟨.hbm, 223, rfl⟩
abbrev main_v161 : Ref sig .tc := ⟨.hbm, 224, rfl⟩
abbrev main_v162 : Ref sig .tc := ⟨.hbm, 225, rfl⟩
abbrev main_c_52 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_c_53 : Ref sig .tc := ⟨.hbm, 232, rfl⟩
abbrev main_v168 : Ref sig .tc := ⟨.hbm, 233, rfl⟩
abbrev main_v169 : Ref sig .tc := ⟨.hbm, 234, rfl⟩
abbrev main_c_54 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_c_55 : Ref sig .tc := ⟨.hbm, 242, rfl⟩
abbrev main_v176 : Ref sig .tc := ⟨.hbm, 243, rfl⟩
abbrev main_v177 : Ref sig .tc := ⟨.hbm, 244, rfl⟩
abbrev main_c_56 : Ref sig .tc := ⟨.hbm, 245, rfl⟩
abbrev main_v178 : Ref sig .tc := ⟨.hbm, 246, rfl⟩
abbrev main_v179 : Ref sig .tc := ⟨.hbm, 247, rfl⟩
abbrev main_c_57 : Ref sig .tc := ⟨.hbm, 248, rfl⟩
abbrev main_c_58 : Ref sig .tc := ⟨.hbm, 249, rfl⟩
abbrev main_v180 : Ref sig .tc := ⟨.hbm, 250, rfl⟩
abbrev main_c_59 : Ref sig .tc := ⟨.hbm, 251, rfl⟩
abbrev main_v181 : Ref sig .tc := ⟨.hbm, 252, rfl⟩
abbrev main_c_60 : Ref sig .tc := ⟨.hbm, 253, rfl⟩
abbrev main_v182 : Ref sig .tc := ⟨.hbm, 254, rfl⟩
abbrev main_v183 : Ref sig .tc := ⟨.hbm, 255, rfl⟩
abbrev main_c_61 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_c_62 : Ref sig .tc := ⟨.hbm, 260, rfl⟩
abbrev main_v187 : Ref sig .tc := ⟨.hbm, 261, rfl⟩
abbrev main_v188 : Ref sig .tc := ⟨.hbm, 262, rfl⟩
abbrev main_c_63 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_c_64 : Ref sig .tc := ⟨.hbm, 269, rfl⟩
abbrev main_v194 : Ref sig .tc := ⟨.hbm, 270, rfl⟩
abbrev main_v195 : Ref sig .tc := ⟨.hbm, 271, rfl⟩
abbrev main_c_65 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_c_66 : Ref sig .tc := ⟨.hbm, 278, rfl⟩
abbrev main_v201 : Ref sig .tc := ⟨.hbm, 279, rfl⟩
abbrev main_v202 : Ref sig .tc := ⟨.hbm, 280, rfl⟩
abbrev main_c_67 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_c_68 : Ref sig .tc := ⟨.hbm, 287, rfl⟩
abbrev main_v208 : Ref sig .tc := ⟨.hbm, 288, rfl⟩
abbrev main_v209 : Ref sig .tc := ⟨.hbm, 289, rfl⟩
abbrev main_c_69 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_c_70 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_c_71 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_c_72 : Ref sig .tc := ⟨.hbm, 304, rfl⟩
abbrev main_v221 : Ref sig .tc := ⟨.hbm, 305, rfl⟩
abbrev main_v222 : Ref sig .tc := ⟨.hbm, 306, rfl⟩
abbrev main_c_73 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_c_74 : Ref sig .tc := ⟨.hbm, 313, rfl⟩
abbrev main_v228 : Ref sig .tc := ⟨.hbm, 314, rfl⟩
abbrev main_v229 : Ref sig .tc := ⟨.hbm, 315, rfl⟩
abbrev main_c_75 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_c_76 : Ref sig .tc := ⟨.hbm, 322, rfl⟩
abbrev main_v235 : Ref sig .tc := ⟨.hbm, 323, rfl⟩
abbrev main_v236 : Ref sig .tc := ⟨.hbm, 324, rfl⟩
abbrev main_c_77 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_c_78 : Ref sig .tc := ⟨.hbm, 331, rfl⟩
abbrev main_v242 : Ref sig .tc := ⟨.hbm, 332, rfl⟩
abbrev main_v243 : Ref sig .tc := ⟨.hbm, 333, rfl⟩
abbrev main_c_79 : Ref sig .tc := ⟨.hbm, 334, rfl⟩
abbrev main_v244 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_c_80 : Ref sig .tc := ⟨.hbm, 341, rfl⟩
abbrev main_v250 : Ref sig .tc := ⟨.hbm, 342, rfl⟩
abbrev main_v251 : Ref sig .tc := ⟨.hbm, 343, rfl⟩
abbrev main_c_81 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_c_82 : Ref sig .tc := ⟨.hbm, 348, rfl⟩
abbrev main_v255 : Ref sig .tc := ⟨.hbm, 349, rfl⟩
abbrev main_v256 : Ref sig .tc := ⟨.hbm, 350, rfl⟩
abbrev main_c_83 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_c_84 : Ref sig .tc := ⟨.hbm, 357, rfl⟩
abbrev main_v262 : Ref sig .tc := ⟨.hbm, 358, rfl⟩
abbrev main_v263 : Ref sig .tc := ⟨.hbm, 359, rfl⟩
abbrev main_c_85 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_c_86 : Ref sig .tc := ⟨.hbm, 366, rfl⟩
abbrev main_v269 : Ref sig .tc := ⟨.hbm, 367, rfl⟩
abbrev main_v270 : Ref sig .tc := ⟨.hbm, 368, rfl⟩
abbrev main_c_87 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_c_88 : Ref sig .tc := ⟨.hbm, 375, rfl⟩
abbrev main_v276 : Ref sig .tc := ⟨.hbm, 376, rfl⟩
abbrev main_v277 : Ref sig .tc := ⟨.hbm, 377, rfl⟩
abbrev main_c_89 : Ref sig .tc := ⟨.hbm, 378, rfl⟩
abbrev main_v278 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_c_90 : Ref sig .tc := ⟨.hbm, 383, rfl⟩
abbrev main_v282 : Ref sig .tc := ⟨.hbm, 384, rfl⟩
abbrev main_v283 : Ref sig .tc := ⟨.hbm, 385, rfl⟩
abbrev main_c_91 : Ref sig .tc := ⟨.hbm, 386, rfl⟩
abbrev main_v284 : Ref sig .tc := ⟨.hbm, 387, rfl⟩
abbrev main_v285 : Ref sig .tc := ⟨.hbm, 388, rfl⟩
abbrev main_c_92 : Ref sig .tc := ⟨.hbm, 389, rfl⟩
abbrev main_v286 : Ref sig .tc := ⟨.hbm, 390, rfl⟩
abbrev main_v287 : Ref sig .tc := ⟨.hbm, 391, rfl⟩
abbrev main_v288 : Ref sig .tc := ⟨.hbm, 392, rfl⟩
abbrev main_c_93 : Ref sig .tc := ⟨.hbm, 393, rfl⟩
abbrev main_v289 : Ref sig .tc := ⟨.hbm, 394, rfl⟩
abbrev main_v290 : Ref sig .tc := ⟨.hbm, 395, rfl⟩
abbrev main_c_94 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_c_95 : Ref sig .tc := ⟨.hbm, 402, rfl⟩
abbrev main_v296 : Ref sig .tc := ⟨.hbm, 403, rfl⟩
abbrev main_v297 : Ref sig .tc := ⟨.hbm, 404, rfl⟩
abbrev main_c_96 : Ref sig .tc := ⟨.hbm, 405, rfl⟩
abbrev main_v298 : Ref sig .tc := ⟨.hbm, 406, rfl⟩
abbrev main_v299 : Ref sig .tc := ⟨.hbm, 407, rfl⟩
abbrev main_v300 : Ref sig .tc := ⟨.hbm, 408, rfl⟩
abbrev main_v301 : Ref sig .tc := ⟨.hbm, 409, rfl⟩
abbrev main_v302 : Ref sig .tc := ⟨.hbm, 410, rfl⟩
abbrev main_c_97 : Ref sig .tc := ⟨.hbm, 411, rfl⟩
abbrev main_v303 : Ref sig .tc := ⟨.hbm, 412, rfl⟩
abbrev main_v304 : Ref sig .tc := ⟨.hbm, 413, rfl⟩
abbrev main_c_98 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_v308 : Ref sig .tc := ⟨.hbm, 418, rfl⟩
abbrev main_v309 : Ref sig .tc := ⟨.hbm, 419, rfl⟩
abbrev main_c_99 : Ref sig .tc := ⟨.hbm, 420, rfl⟩
abbrev main_v310 : Ref sig .tc := ⟨.hbm, 421, rfl⟩
abbrev main_v311 : Ref sig .tc := ⟨.hbm, 422, rfl⟩
abbrev main_c_100 : Ref sig .tc := ⟨.hbm, 423, rfl⟩
abbrev main_v312 : Ref sig .tc := ⟨.hbm, 424, rfl⟩
abbrev main_v313 : Ref sig .tc := ⟨.hbm, 425, rfl⟩
abbrev main_v314 : Ref sig .tc := ⟨.hbm, 426, rfl⟩
abbrev main_v315 : Ref sig .tc := ⟨.hbm, 427, rfl⟩
abbrev main_c_101 : Ref sig .tc := ⟨.hbm, 428, rfl⟩
abbrev main_v316 : Ref sig .tc := ⟨.hbm, 429, rfl⟩
abbrev main_v317 : Ref sig .tc := ⟨.hbm, 430, rfl⟩
abbrev main_v318 : Ref sig .tc := ⟨.hbm, 431, rfl⟩
abbrev main_v319 : Ref sig .tc := ⟨.hbm, 432, rfl⟩
abbrev main_c_102 : Ref sig .tc := ⟨.hbm, 433, rfl⟩
abbrev main_v320 : Ref sig .tc := ⟨.hbm, 434, rfl⟩
abbrev main_v321 : Ref sig .tc := ⟨.hbm, 435, rfl⟩
abbrev main_v322 : Ref sig .tc := ⟨.hbm, 436, rfl⟩
abbrev main_c_103 : Ref sig .tc := ⟨.hbm, 437, rfl⟩
abbrev main_v323 : Ref sig .tc := ⟨.hbm, 438, rfl⟩
abbrev main_v324 : Ref sig .tc := ⟨.hbm, 439, rfl⟩
abbrev main_c_104 : Ref sig .tc := ⟨.hbm, 440, rfl⟩
abbrev main_v325 : Ref sig .tc := ⟨.hbm, 441, rfl⟩
abbrev main_v326 : Ref sig .tc := ⟨.hbm, 442, rfl⟩
abbrev main_v327 : Ref sig .tc := ⟨.hbm, 443, rfl⟩
abbrev main_v328 : Ref sig .tc := ⟨.hbm, 444, rfl⟩
abbrev main_v329 : Ref sig .tc := ⟨.hbm, 445, rfl⟩
abbrev main_c_105 : Ref sig .tc := ⟨.hbm, 446, rfl⟩
abbrev main_v330 : Ref sig .tc := ⟨.hbm, 447, rfl⟩
abbrev main_v331 : Ref sig .tc := ⟨.hbm, 448, rfl⟩
abbrev main_c_106 : Ref sig .tc := ⟨.hbm, 449, rfl⟩
abbrev main_v332 : Ref sig .tc := ⟨.hbm, 450, rfl⟩
abbrev main_v333 : Ref sig .tc := ⟨.hbm, 451, rfl⟩
abbrev main_v334 : Ref sig .tc := ⟨.hbm, 452, rfl⟩
abbrev main_v335 : Ref sig .tc := ⟨.hbm, 453, rfl⟩
abbrev main_v336 : Ref sig .tc := ⟨.hbm, 454, rfl⟩
abbrev main_c_107 : Ref sig .tc := ⟨.hbm, 455, rfl⟩
abbrev main_v337 : Ref sig .tc := ⟨.hbm, 456, rfl⟩
abbrev main_v338 : Ref sig .tc := ⟨.hbm, 457, rfl⟩
abbrev main_c_108 : Ref sig .tc := ⟨.hbm, 458, rfl⟩
abbrev main_v339 : Ref sig .tc := ⟨.hbm, 459, rfl⟩
abbrev main_v340 : Ref sig .tc := ⟨.hbm, 460, rfl⟩
abbrev main_v341 : Ref sig .tc := ⟨.hbm, 461, rfl⟩
abbrev main_v342 : Ref sig .tc := ⟨.hbm, 462, rfl⟩
abbrev main_v343 : Ref sig .tc := ⟨.hbm, 463, rfl⟩
abbrev main_c_109 : Ref sig .tc := ⟨.hbm, 464, rfl⟩
abbrev main_v344 : Ref sig .tc := ⟨.hbm, 465, rfl⟩
abbrev main_v345 : Ref sig .tc := ⟨.hbm, 466, rfl⟩
abbrev main_c_110 : Ref sig .tc := ⟨.hbm, 467, rfl⟩
abbrev main_v346 : Ref sig .tc := ⟨.hbm, 468, rfl⟩
abbrev main_v347 : Ref sig .tc := ⟨.hbm, 469, rfl⟩
abbrev main_v348 : Ref sig .tc := ⟨.hbm, 470, rfl⟩
abbrev main_v349 : Ref sig .tc := ⟨.hbm, 471, rfl⟩
abbrev main_v350 : Ref sig .tc := ⟨.hbm, 472, rfl⟩
abbrev main_v351 : Ref sig .tc := ⟨.hbm, 473, rfl⟩
abbrev main_c_111 : Ref sig .tc := ⟨.hbm, 474, rfl⟩
abbrev main_v352 : Ref sig .tc := ⟨.hbm, 475, rfl⟩
abbrev main_v353 : Ref sig .tc := ⟨.hbm, 476, rfl⟩
abbrev main_c_112 : Ref sig .tc := ⟨.hbm, 477, rfl⟩
abbrev main_v354 : Ref sig .tc := ⟨.hbm, 478, rfl⟩
abbrev main_v355 : Ref sig .tc := ⟨.hbm, 479, rfl⟩
abbrev main_v356 : Ref sig .tc := ⟨.hbm, 480, rfl⟩
abbrev main_v357 : Ref sig .tc := ⟨.hbm, 481, rfl⟩
abbrev main_v358 : Ref sig .tc := ⟨.hbm, 482, rfl⟩
abbrev main_v359 : Ref sig .tc := ⟨.hbm, 483, rfl⟩
abbrev main_v360 : Ref sig .tc := ⟨.hbm, 484, rfl⟩
abbrev main_v361 : Ref sig .tc := ⟨.hbm, 485, rfl⟩
abbrev main_v362 : Ref sig .tc := ⟨.hbm, 486, rfl⟩
abbrev main_v363 : Ref sig .tc := ⟨.hbm, 487, rfl⟩
abbrev main_v364 : Ref sig .tc := ⟨.hbm, 488, rfl⟩
abbrev main_v365_0 : Ref sig .tc := ⟨.hbm, 489, rfl⟩
abbrev main_v365_1 : Ref sig .tc := ⟨.hbm, 490, rfl⟩
abbrev main_v366 : Ref sig .tc := ⟨.hbm, 491, rfl⟩
abbrev main_v367 : Ref sig .tc := ⟨.hbm, 492, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := .none

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S4x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S2x2 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x125x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x500x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x125x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x125x64 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S1000000x2 : Shape := ⟨2, ![1000000, 2]⟩
abbrev S1000000x4x4 : Shape := ⟨3, ![1000000, 4, 4]⟩
abbrev S1000000x4x2 : Shape := ⟨3, ![1000000, 4, 2]⟩
abbrev S1000000x4x2x2 : Shape := ⟨4, ![1000000, 4, 2, 2]⟩
abbrev S2 : Shape := ⟨1, ![2]⟩
abbrev S4x2 : Shape := ⟨2, ![4, 2]⟩
abbrev S4 : Shape := ⟨1, ![4]⟩
abbrev S4x4 : Shape := ⟨2, ![4, 4]⟩
abbrev S_ : Shape := ⟨0, ![]⟩
abbrev S2x4 : Shape := ⟨2, ![2, 4]⟩
abbrev S1 : Shape := ⟨1, ![1]⟩
abbrev S1000000x4 : Shape := ⟨2, ![1000000, 4]⟩
abbrev S4000000 : Shape := ⟨1, ![4000000]⟩
abbrev S1000000 : Shape := ⟨1, ![1000000]⟩
abbrev S1000000x1 : Shape := ⟨2, ![1000000, 1]⟩
abbrev S1000000x1x1 : Shape := ⟨3, ![1000000, 1, 1]⟩
abbrev S1x1x1 : Shape := ⟨3, ![1, 1, 1]⟩
abbrev S1000000x1x2 : Shape := ⟨3, ![1000000, 1, 2]⟩
abbrev S1000000x1x1x1 : Shape := ⟨4, ![1000000, 1, 1, 1]⟩
abbrev S1000000x1x2x2 : Shape := ⟨4, ![1000000, 1, 2, 2]⟩
abbrev S1000000x2x2 : Shape := ⟨3, ![1000000, 2, 2]⟩
abbrev S2x1 : Shape := ⟨2, ![2, 1]⟩
abbrev S2x2 : Shape := ⟨2, ![2, 2]⟩
abbrev S1000000x2x1 : Shape := ⟨3, ![1000000, 2, 1]⟩
abbrev S1x2x2 : Shape := ⟨3, ![1, 2, 2]⟩
abbrev S2000000 : Shape := ⟨1, ![2000000]⟩

abbrev nBuf : Space → Nat
  | .hbm => 1070
  | .vmem => 0
  | .smem => 0
  | _ => 0

abbrev hbmTy0_0 (i : Nat) : BufTy := match i % 128 with
  | 0 => ⟨S1000000x2, .f32⟩
  | 1 => ⟨S1000000x4x4, .f32⟩
  | 2 => ⟨S1000000x4x2, .f32⟩
  | 3 => ⟨S1000000x4x2x2, .f32⟩
  | 4 => ⟨S2, .f32⟩
  | 5 => ⟨S4x2, .f32⟩
  | 6 => ⟨S4, .f32⟩
  | 7 => ⟨S4x4, .f32⟩
  | 8 => ⟨S4, .f32⟩
  | 9 => ⟨S_, .i32⟩
  | 10 => ⟨S_, .i32⟩
  | 11 => ⟨S_, .i32⟩
  | 12 => ⟨S2x4, .f32⟩
  | 13 => ⟨S4, .f32⟩
  | 14 => ⟨S4, .f32⟩
  | 15 => ⟨S4, .f32⟩
  | 16 => ⟨S_, .f32⟩
  | 17 => ⟨S4, .f32⟩
  | 18 => ⟨S4, .f32⟩
  | 19 => ⟨S4, .f32⟩
  | 20 => ⟨S4x4, .f32⟩
  | 21 => ⟨S4, .f32⟩
  | 22 => ⟨S4, .f32⟩
  | 23 => ⟨S_, .f32⟩
  | 24 => ⟨S_, .f32⟩
  | 25 => ⟨S_, .f32⟩
  | 26 => ⟨S_, .f32⟩
  | 27 => ⟨S1, .f32⟩
  | 28 => ⟨S4, .f32⟩
  | 29 => ⟨S4, .f32⟩
  | 30 => ⟨S4, .f32⟩
  | 31 => ⟨S_, .f32⟩
  | 32 => ⟨S_, .f32⟩
  | 33 => ⟨S1, .f32⟩
  | 34 => ⟨S1, .f32⟩
  | 35 => ⟨S4, .f32⟩
  | 36 => ⟨S4, .f32⟩
  | 37 => ⟨S1000000x4, .f32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S1000000x2, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S4000000, .i32⟩
  | 87 => ⟨S1000000x4, .i32⟩
  | 88 => ⟨S_, .i32⟩
  | 89 => ⟨S1000000x4, .i32⟩
  | 90 => ⟨S_, .i32⟩
  | 91 => ⟨S_, .i32⟩
  | 92 => ⟨S_, .i32⟩
  | 93 => ⟨S1000000x4, .i32⟩
  | 94 => ⟨S1000000x4, .i32⟩
  | 95 => ⟨S1000000x4, .i32⟩
  | 96 => ⟨S1000000x4, .i32⟩
  | 97 => ⟨S1000000x4, .i32⟩
  | 98 => ⟨S_, .i32⟩
  | 99 => ⟨S1000000x4, .i32⟩
  | 100 => ⟨S1000000x4, .i32⟩
  | 101 => ⟨S_, .i32⟩
  | 102 => ⟨S1000000x4, .i32⟩
  | 103 => ⟨S1000000x4, .i32⟩
  | 104 => ⟨S1000000x4, .i32⟩
  | 105 => ⟨S1000000x4, .i32⟩
  | 106 => ⟨S1000000x4, .i32⟩
  | 107 => ⟨S_, .i32⟩
  | 108 => ⟨S1000000x4, .i32⟩
  | 109 => ⟨S1000000x4, .i32⟩
  | 110 => ⟨S_, .i32⟩
  | 111 => ⟨S1000000x4, .i32⟩
  | 112 => ⟨S1000000x4, .i32⟩
  | 113 => ⟨S1000000x4, .i32⟩
  | 114 => ⟨S1000000x4, .i32⟩
  | 115 => ⟨S1000000x4, .i32⟩
  | 116 => ⟨S_, .i32⟩
  | 117 => ⟨S1000000x4, .i32⟩
  | 118 => ⟨S1000000x4, .i32⟩
  | 119 => ⟨S_, .i32⟩
  | 120 => ⟨S1000000x4, .i32⟩
  | 121 => ⟨S1000000x4, .i32⟩
  | 122 => ⟨S1000000x4, .i32⟩
  | 123 => ⟨S1000000x4, .i32⟩
  | 124 => ⟨S1000000x4, .i32⟩
  | 125 => ⟨S_, .i32⟩
  | 126 => ⟨S1000000x4, .i32⟩
  | 127 => ⟨S1000000x4, .i32⟩
  | _ => ⟨S1000000x2, .f32⟩

abbrev hbmTy0_2 (i : Nat) : BufTy := match i % 128 with
  | 0 => ⟨S_, .i32⟩
  | 1 => ⟨S1000000x4, .i32⟩
  | 2 => ⟨S1000000x4, .i32⟩
  | 3 => ⟨S1000000x4, .i32⟩
  | 4 => ⟨S1000000x4, .i32⟩
  | 5 => ⟨S1000000x4, .i32⟩
  | 6 => ⟨S1000000x4, .i32⟩
  | 7 => ⟨S1000000x4, .i32⟩
  | 8 => ⟨S1000000x4, .i32⟩
  | 9 => ⟨S_, .i32⟩
  | 10 => ⟨S1000000x4, .i32⟩
  | 11 => ⟨S1000000x4, .i32⟩
  | 12 => ⟨S1000000x4, .i32⟩
  | 13 => ⟨S_, .i32⟩
  | 14 => ⟨S1000000x4, .i32⟩
  | 15 => ⟨S1000000x4, .i32⟩
  | 16 => ⟨S_, .i32⟩
  | 17 => ⟨S1000000x4, .i32⟩
  | 18 => ⟨S1000000x4, .i32⟩
  | 19 => ⟨S1000000x4, .i32⟩
  | 20 => ⟨S1000000x4, .i32⟩
  | 21 => ⟨S1000000x4, .i32⟩
  | 22 => ⟨S_, .i32⟩
  | 23 => ⟨S1000000x4, .i32⟩
  | 24 => ⟨S1000000x4, .i32⟩
  | 25 => ⟨S_, .i32⟩
  | 26 => ⟨S1000000x4, .i32⟩
  | 27 => ⟨S1000000x4, .i32⟩
  | 28 => ⟨S1000000x4, .i32⟩
  | 29 => ⟨S1000000x4, .i32⟩
  | 30 => ⟨S1000000x4, .i32⟩
  | 31 => ⟨S_, .i32⟩
  | 32 => ⟨S1000000x4, .i32⟩
  | 33 => ⟨S1000000x4, .i32⟩
  | 34 => ⟨S_, .i32⟩
  | 35 => ⟨S1000000x4, .i32⟩
  | 36 => ⟨S1000000x4, .i32⟩
  | 37 => ⟨S1000000x4, .i32⟩
  | 38 => ⟨S1000000x4, .i32⟩
  | 39 => ⟨S1000000x4, .i32⟩
  | 40 => ⟨S_, .i32⟩
  | 41 => ⟨S1000000x4, .i32⟩
  | 42 => ⟨S1000000x4, .i32⟩
  | 43 => ⟨S_, .i32⟩
  | 44 => ⟨S1000000x4, .i32⟩
  | 45 => ⟨S1000000x4, .i32⟩
  | 46 => ⟨S1000000x4, .i32⟩
  | 47 => ⟨S1000000x4, .i32⟩
  | 48 => ⟨S1000000x4, .i32⟩
  | 49 => ⟨S1000000x4, .i32⟩
  | 50 => ⟨S1000000x4, .i32⟩
  | 51 => ⟨S1000000x4, .i32⟩
  | 52 => ⟨S_, .i32⟩
  | 53 => ⟨S1000000x4, .i32⟩
  | 54 => ⟨S1000000x4, .i32⟩
  | 55 => ⟨S1000000x4, .i32⟩
  | 56 => ⟨S_, .i32⟩
  | 57 => ⟨S1000000x4, .i32⟩
  | 58 => ⟨S1000000x4, .i32⟩
  | 59 => ⟨S_, .i32⟩
  | 60 => ⟨S1000000x4, .i32⟩
  | 61 => ⟨S1000000x4, .i32⟩
  | 62 => ⟨S1000000x4, .i32⟩
  | 63 => ⟨S1000000x4, .i32⟩
  | 64 => ⟨S1000000x4, .i32⟩
  | 65 => ⟨S_, .i32⟩
  | 66 => ⟨S1000000x4, .i32⟩
  | 67 => ⟨S1000000x4, .i32⟩
  | 68 => ⟨S_, .i32⟩
  | 69 => ⟨S1000000x4, .i32⟩
  | 70 => ⟨S1000000x4, .i32⟩
  | 71 => ⟨S1000000x4, .i32⟩
  | 72 => ⟨S1000000x4, .i32⟩
  | 73 => ⟨S1000000x4, .i32⟩
  | 74 => ⟨S_, .i32⟩
  | 75 => ⟨S1000000x4, .i32⟩
  | 76 => ⟨S1000000x4, .i32⟩
  | 77 => ⟨S_, .i32⟩
  | 78 => ⟨S1000000x4, .i32⟩
  | 79 => ⟨S1000000x4, .i32⟩
  | 80 => ⟨S1000000x4, .i32⟩
  | 81 => ⟨S1000000x4, .i32⟩
  | 82 => ⟨S1000000x4, .i32⟩
  | 83 => ⟨S_, .i32⟩
  | 84 => ⟨S1000000x4, .i32⟩
  | 85 => ⟨S1000000x4, .i32⟩
  | 86 => ⟨S_, .i32⟩
  | 87 => ⟨S1000000x4, .i32⟩
  | 88 => ⟨S1000000x4, .i32⟩
  | 89 => ⟨S1000000x4, .i32⟩
  | 90 => ⟨S1000000x4, .i32⟩
  | 91 => ⟨S1000000x4, .i32⟩
  | 92 => ⟨S1000000x4, .i32⟩
  | 93 => ⟨S1000000x4, .i32⟩
  | 94 => ⟨S1000000x4, .i32⟩
  | 95 => ⟨S_, .i32⟩
  | 96 => ⟨S1000000x4, .i32⟩
  | 97 => ⟨S1000000x4, .i32⟩
  | 98 => ⟨S1000000x4, .i32⟩
  | 99 => ⟨S_, .i32⟩
  | 100 => ⟨S1000000x4, .i32⟩
  | 101 => ⟨S1000000x4, .i32⟩
  | 102 => ⟨S_, .i32⟩
  | 103 => ⟨S1000000x4, .i32⟩
  | 104 => ⟨S1000000x4, .i32⟩
  | 105 => ⟨S1000000x4, .i32⟩
  | 106 => ⟨S1000000x4, .i32⟩
  | 107 => ⟨S1000000x4, .i32⟩
  | 108 => ⟨S_, .i32⟩
  | 109 => ⟨S1000000x4, .i32⟩
  | 110 => ⟨S1000000x4, .i32⟩
  | 111 => ⟨S_, .i32⟩
  | 112 => ⟨S1000000x4, .i32⟩
  | 113 => ⟨S1000000x4, .i32⟩
  | 114 => ⟨S1000000x4, .i32⟩
  | 115 => ⟨S1000000x4, .i32⟩
  | 116 => ⟨S1000000x4, .i32⟩
  | 117 => ⟨S_, .i32⟩
  | 118 => ⟨S1000000x4, .i32⟩
  | 119 => ⟨S1000000x4, .i32⟩
  | 120 => ⟨S_, .i32⟩
  | 121 => ⟨S1000000x4, .i32⟩
  | 122 => ⟨S1000000x4, .i32⟩
  | 123 => ⟨S1000000x4, .i32⟩
  | 124 => ⟨S1000000x4, .i32⟩
  | 125 => ⟨S1000000x4, .i32⟩
  | 126 => ⟨S_, .i32⟩
  | 127 => ⟨S1000000x4, .i32⟩
  | _ => ⟨S1000000x2, .f32⟩

abbrev hbmTy0_3 (i : Nat) : BufTy := match i % 128 with
  | 0 => ⟨S1000000x4, .i32⟩
  | 1 => ⟨S_, .i32⟩
  | 2 => ⟨S1000000x4, .i32⟩
  | 3 => ⟨S1000000x4, .i32⟩
  | 4 => ⟨S1000000x4, .i32⟩
  | 5 => ⟨S1000000x4, .i32⟩
  | 6 => ⟨S1000000x4, .i32⟩
  | 7 => ⟨S1000000x4, .i32⟩
  | 8 => ⟨S1000000x4, .i32⟩
  | 9 => ⟨S1000000x4, .i32⟩
  | 10 => ⟨S_, .i32⟩
  | 11 => ⟨S1000000x4, .i32⟩
  | 12 => ⟨S1000000x4, .i32⟩
  | 13 => ⟨S1000000x4, .i32⟩
  | 14 => ⟨S_, .i32⟩
  | 15 => ⟨S1000000x4, .i32⟩
  | 16 => ⟨S1000000x4, .i32⟩
  | 17 => ⟨S_, .i32⟩
  | 18 => ⟨S1000000x4, .i32⟩
  | 19 => ⟨S1000000x4, .i32⟩
  | 20 => ⟨S1000000x4, .i32⟩
  | 21 => ⟨S1000000x4, .i32⟩
  | 22 => ⟨S1000000x4, .i32⟩
  | 23 => ⟨S_, .i32⟩
  | 24 => ⟨S1000000x4, .i32⟩
  | 25 => ⟨S1000000x4, .i32⟩
  | 26 => ⟨S_, .i32⟩
  | 27 => ⟨S1000000x4, .i32⟩
  | 28 => ⟨S1000000x4, .i32⟩
  | 29 => ⟨S1000000x4, .i32⟩
  | 30 => ⟨S1000000x4, .i32⟩
  | 31 => ⟨S1000000x4, .i32⟩
  | 32 => ⟨S_, .i32⟩
  | 33 => ⟨S1000000x4, .i32⟩
  | 34 => ⟨S1000000x4, .i32⟩
  | 35 => ⟨S_, .i32⟩
  | 36 => ⟨S1000000x4, .i32⟩
  | 37 => ⟨S1000000x4, .i32⟩
  | 38 => ⟨S1000000x4, .i32⟩
  | 39 => ⟨S1000000x4, .i32⟩
  | 40 => ⟨S1000000x4, .i32⟩
  | 41 => ⟨S_, .i32⟩
  | 42 => ⟨S1000000x4, .i32⟩
  | 43 => ⟨S1000000x4, .i32⟩
  | 44 => ⟨S_, .i32⟩
  | 45 => ⟨S1000000x4, .i32⟩
  | 46 => ⟨S1000000x4, .i32⟩
  | 47 => ⟨S1000000x4, .i32⟩
  | 48 => ⟨S1000000x4, .i32⟩
  | 49 => ⟨S1000000x4, .i32⟩
  | 50 => ⟨S1000000x4, .i32⟩
  | 51 => ⟨S1000000x4, .i32⟩
  | 52 => ⟨S1000000x4, .i32⟩
  | 53 => ⟨S_, .i32⟩
  | 54 => ⟨S1000000x4, .i32⟩
  | 55 => ⟨S1000000x4, .i32⟩
  | 56 => ⟨S1000000x4, .i32⟩
  | 57 => ⟨S_, .i32⟩
  | 58 => ⟨S1000000x4, .i32⟩
  | 59 => ⟨S1000000x4, .i32⟩
  | 60 => ⟨S_, .i32⟩
  | 61 => ⟨S1000000x4, .i32⟩
  | 62 => ⟨S1000000x4, .i32⟩
  | 63 => ⟨S1000000x4, .f32⟩
  | 64 => ⟨S_, .f32⟩
  | 65 => ⟨S1000000x4, .f32⟩
  | 66 => ⟨S1000000x4, .f32⟩
  | 67 => ⟨S_, .f32⟩
  | 68 => ⟨S1000000x4, .f32⟩
  | 69 => ⟨S1000000x4, .f32⟩
  | 70 => ⟨S1000000x4, .f32⟩
  | 71 => ⟨S1000000x4, .f32⟩
  | 72 => ⟨S1000000x4, .f32⟩
  | 73 => ⟨S1000000x4, .f32⟩
  | 74 => ⟨S1000000x4, .f32⟩
  | 75 => ⟨S_, .f32⟩
  | 76 => ⟨S1000000, .f32⟩
  | 77 => ⟨S1000000x1, .f32⟩
  | 78 => ⟨S1000000x4, .f32⟩
  | 79 => ⟨S1000000x4, .i1⟩
  | 80 => ⟨S4, .i32⟩
  | 81 => ⟨S_, .i32⟩
  | 82 => ⟨S_, .i32⟩
  | 83 => ⟨S1000000x4, .i32⟩
  | 84 => ⟨S1000000x4, .i32⟩
  | 85 => ⟨S1000000x4, .i32⟩
  | 86 => ⟨S_, .i32⟩
  | 87 => ⟨S1000000, .i32⟩
  | 88 => ⟨S1000000x1x1, .i32⟩
  | 89 => ⟨S_, .i32⟩
  | 90 => ⟨S1000000x1x1, .i32⟩
  | 91 => ⟨S1000000x1x1, .i1⟩
  | 92 => ⟨S_, .i32⟩
  | 93 => ⟨S1000000x1x1, .i32⟩
  | 94 => ⟨S1000000x1x1, .i32⟩
  | 95 => ⟨S1000000x1x1, .i32⟩
  | 96 => ⟨S1, .i32⟩
  | 97 => ⟨S_, .i32⟩
  | 98 => ⟨S1000000x1x1, .i32⟩
  | 99 => ⟨S1000000x1x1, .i1⟩
  | 100 => ⟨S1x1x1, .i32⟩
  | 101 => ⟨S1000000x1x1, .i32⟩
  | 102 => ⟨S1000000x1x1, .i1⟩
  | 103 => ⟨S1000000x1x1, .i1⟩
  | 104 => ⟨S_, .i1⟩
  | 105 => ⟨S1000000x1, .i1⟩
  | 106 => ⟨S1000000x1x2, .f32⟩
  | 107 => ⟨S1000000x1x2, .i1⟩
  | 108 => ⟨S_, .f32⟩
  | 109 => ⟨S1000000x1x2, .f32⟩
  | 110 => ⟨S1000000x1x2, .f32⟩
  | 111 => ⟨S1000000x2, .f32⟩
  | 112 => ⟨S1000000x1x1x1, .i32⟩
  | 113 => ⟨S_, .i32⟩
  | 114 => ⟨S1000000x1x1x1, .i32⟩
  | 115 => ⟨S1000000x1x1x1, .i1⟩
  | 116 => ⟨S_, .i32⟩
  | 117 => ⟨S1000000x1x1x1, .i32⟩
  | 118 => ⟨S1000000x1x1x1, .i32⟩
  | 119 => ⟨S1000000x1x1x1, .i32⟩
  | 120 => ⟨S1000000x1x1, .i32⟩
  | 121 => ⟨S1, .i32⟩
  | 122 => ⟨S_, .i32⟩
  | 123 => ⟨S1000000x1x1, .i32⟩
  | 124 => ⟨S1000000x1x1, .i1⟩
  | 125 => ⟨S1x1x1, .i32⟩
  | 126 => ⟨S1000000x1x1, .i32⟩
  | 127 => ⟨S1000000x1x1, .i1⟩
  | _ => ⟨S1000000x2, .f32⟩

abbrev hbmTy0_4 (i : Nat) : BufTy := match i % 128 with
  | 0 => ⟨S1000000x1x1, .i1⟩
  | 1 => ⟨S_, .i1⟩
  | 2 => ⟨S1000000x1, .i1⟩
  | 3 => ⟨S1000000x1x2x2, .f32⟩
  | 4 => ⟨S1000000x1x2x2, .i1⟩
  | 5 => ⟨S_, .f32⟩
  | 6 => ⟨S1000000x1x2x2, .f32⟩
  | 7 => ⟨S1000000x1x2x2, .f32⟩
  | 8 => ⟨S1000000x2x2, .f32⟩
  | 9 => ⟨S2, .i32⟩
  | 10 => ⟨S2, .i32⟩
  | 11 => ⟨S_, .i32⟩
  | 12 => ⟨S2, .i32⟩
  | 13 => ⟨S2, .i1⟩
  | 14 => ⟨S_, .i32⟩
  | 15 => ⟨S2, .i32⟩
  | 16 => ⟨S2, .i32⟩
  | 17 => ⟨S2, .i32⟩
  | 18 => ⟨S_, .i32⟩
  | 19 => ⟨S2, .i32⟩
  | 20 => ⟨S2, .i1⟩
  | 21 => ⟨S_, .i32⟩
  | 22 => ⟨S2, .i32⟩
  | 23 => ⟨S2, .i32⟩
  | 24 => ⟨S2, .i32⟩
  | 25 => ⟨S2x1, .i32⟩
  | 26 => ⟨S2x1, .i32⟩
  | 27 => ⟨S2x2, .i32⟩
  | 28 => ⟨S1000000x2, .f32⟩
  | 29 => ⟨S1000000x2, .f32⟩
  | 30 => ⟨S2x2, .i32⟩
  | 31 => ⟨S_, .i32⟩
  | 32 => ⟨S2x2, .i32⟩
  | 33 => ⟨S2x2, .i32⟩
  | 34 => ⟨S2x2, .i32⟩
  | 35 => ⟨S2x2, .i1⟩
  | 36 => ⟨S1000000x2x2, .i1⟩
  | 37 => ⟨S_, .f32⟩
  | 38 => ⟨S1000000x2x2, .f32⟩
  | 39 => ⟨S1000000x2x2, .f32⟩
  | 40 => ⟨S1000000x2x1, .f32⟩
  | 41 => ⟨S2x2, .i32⟩
  | 42 => ⟨S2x2, .i32⟩
  | 43 => ⟨S_, .i32⟩
  | 44 => ⟨S2x2, .i32⟩
  | 45 => ⟨S2x2, .i32⟩
  | 46 => ⟨S2x2, .i1⟩
  | 47 => ⟨S2x2, .f32⟩
  | 48 => ⟨S1x2x2, .f32⟩
  | 49 => ⟨S1000000x2x2, .f32⟩
  | 50 => ⟨S1000000x2x2, .f32⟩
  | 51 => ⟨S1000000x2x2, .f32⟩
  | 52 => ⟨S1000000x2x2, .f32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S1000000x2, .f32⟩

abbrev hbmTy0_5 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S2000000, .i32⟩
  | 102 => ⟨S1000000x2, .i32⟩
  | 103 => ⟨S_, .i32⟩
  | 104 => ⟨S1000000x2, .i32⟩
  | 105 => ⟨S_, .i32⟩
  | 106 => ⟨S_, .i32⟩
  | 107 => ⟨S_, .i32⟩
  | 108 => ⟨S1000000x2, .i32⟩
  | 109 => ⟨S1000000x2, .i32⟩
  | 110 => ⟨S1000000x2, .i32⟩
  | 111 => ⟨S1000000x2, .i32⟩
  | 112 => ⟨S1000000x2, .i32⟩
  | 113 => ⟨S_, .i32⟩
  | 114 => ⟨S1000000x2, .i32⟩
  | 115 => ⟨S1000000x2, .i32⟩
  | 116 => ⟨S_, .i32⟩
  | 117 => ⟨S1000000x2, .i32⟩
  | 118 => ⟨S1000000x2, .i32⟩
  | 119 => ⟨S1000000x2, .i32⟩
  | 120 => ⟨S1000000x2, .i32⟩
  | 121 => ⟨S1000000x2, .i32⟩
  | 122 => ⟨S_, .i32⟩
  | 123 => ⟨S1000000x2, .i32⟩
  | 124 => ⟨S1000000x2, .i32⟩
  | 125 => ⟨S_, .i32⟩
  | 126 => ⟨S1000000x2, .i32⟩
  | 127 => ⟨S1000000x2, .i32⟩
  | _ => ⟨S1000000x2, .f32⟩

abbrev hbmTy0_6 (i : Nat) : BufTy := match i % 128 with
  | 0 => ⟨S1000000x2, .i32⟩
  | 1 => ⟨S1000000x2, .i32⟩
  | 2 => ⟨S1000000x2, .i32⟩
  | 3 => ⟨S_, .i32⟩
  | 4 => ⟨S1000000x2, .i32⟩
  | 5 => ⟨S1000000x2, .i32⟩
  | 6 => ⟨S_, .i32⟩
  | 7 => ⟨S1000000x2, .i32⟩
  | 8 => ⟨S1000000x2, .i32⟩
  | 9 => ⟨S1000000x2, .i32⟩
  | 10 => ⟨S1000000x2, .i32⟩
  | 11 => ⟨S1000000x2, .i32⟩
  | 12 => ⟨S_, .i32⟩
  | 13 => ⟨S1000000x2, .i32⟩
  | 14 => ⟨S1000000x2, .i32⟩
  | 15 => ⟨S_, .i32⟩
  | 16 => ⟨S1000000x2, .i32⟩
  | 17 => ⟨S1000000x2, .i32⟩
  | 18 => ⟨S1000000x2, .i32⟩
  | 19 => ⟨S1000000x2, .i32⟩
  | 20 => ⟨S1000000x2, .i32⟩
  | 21 => ⟨S1000000x2, .i32⟩
  | 22 => ⟨S1000000x2, .i32⟩
  | 23 => ⟨S1000000x2, .i32⟩
  | 24 => ⟨S_, .i32⟩
  | 25 => ⟨S1000000x2, .i32⟩
  | 26 => ⟨S1000000x2, .i32⟩
  | 27 => ⟨S1000000x2, .i32⟩
  | 28 => ⟨S_, .i32⟩
  | 29 => ⟨S1000000x2, .i32⟩
  | 30 => ⟨S1000000x2, .i32⟩
  | 31 => ⟨S_, .i32⟩
  | 32 => ⟨S1000000x2, .i32⟩
  | 33 => ⟨S1000000x2, .i32⟩
  | 34 => ⟨S1000000x2, .i32⟩
  | 35 => ⟨S1000000x2, .i32⟩
  | 36 => ⟨S1000000x2, .i32⟩
  | 37 => ⟨S_, .i32⟩
  | 38 => ⟨S1000000x2, .i32⟩
  | 39 => ⟨S1000000x2, .i32⟩
  | 40 => ⟨S_, .i32⟩
  | 41 => ⟨S1000000x2, .i32⟩
  | 42 => ⟨S1000000x2, .i32⟩
  | 43 => ⟨S1000000x2, .i32⟩
  | 44 => ⟨S1000000x2, .i32⟩
  | 45 => ⟨S1000000x2, .i32⟩
  | 46 => ⟨S_, .i32⟩
  | 47 => ⟨S1000000x2, .i32⟩
  | 48 => ⟨S1000000x2, .i32⟩
  | 49 => ⟨S_, .i32⟩
  | 50 => ⟨S1000000x2, .i32⟩
  | 51 => ⟨S1000000x2, .i32⟩
  | 52 => ⟨S1000000x2, .i32⟩
  | 53 => ⟨S1000000x2, .i32⟩
  | 54 => ⟨S1000000x2, .i32⟩
  | 55 => ⟨S_, .i32⟩
  | 56 => ⟨S1000000x2, .i32⟩
  | 57 => ⟨S1000000x2, .i32⟩
  | 58 => ⟨S_, .i32⟩
  | 59 => ⟨S1000000x2, .i32⟩
  | 60 => ⟨S1000000x2, .i32⟩
  | 61 => ⟨S1000000x2, .i32⟩
  | 62 => ⟨S1000000x2, .i32⟩
  | 63 => ⟨S1000000x2, .i32⟩
  | 64 => ⟨S1000000x2, .i32⟩
  | 65 => ⟨S1000000x2, .i32⟩
  | 66 => ⟨S1000000x2, .i32⟩
  | 67 => ⟨S_, .i32⟩
  | 68 => ⟨S1000000x2, .i32⟩
  | 69 => ⟨S1000000x2, .i32⟩
  | 70 => ⟨S1000000x2, .i32⟩
  | 71 => ⟨S_, .i32⟩
  | 72 => ⟨S1000000x2, .i32⟩
  | 73 => ⟨S1000000x2, .i32⟩
  | 74 => ⟨S_, .i32⟩
  | 75 => ⟨S1000000x2, .i32⟩
  | 76 => ⟨S1000000x2, .i32⟩
  | 77 => ⟨S1000000x2, .i32⟩
  | 78 => ⟨S1000000x2, .i32⟩
  | 79 => ⟨S1000000x2, .i32⟩
  | 80 => ⟨S_, .i32⟩
  | 81 => ⟨S1000000x2, .i32⟩
  | 82 => ⟨S1000000x2, .i32⟩
  | 83 => ⟨S_, .i32⟩
  | 84 => ⟨S1000000x2, .i32⟩
  | 85 => ⟨S1000000x2, .i32⟩
  | 86 => ⟨S1000000x2, .i32⟩
  | 87 => ⟨S1000000x2, .i32⟩
  | 88 => ⟨S1000000x2, .i32⟩
  | 89 => ⟨S_, .i32⟩
  | 90 => ⟨S1000000x2, .i32⟩
  | 91 => ⟨S1000000x2, .i32⟩
  | 92 => ⟨S_, .i32⟩
  | 93 => ⟨S1000000x2, .i32⟩
  | 94 => ⟨S1000000x2, .i32⟩
  | 95 => ⟨S1000000x2, .i32⟩
  | 96 => ⟨S1000000x2, .i32⟩
  | 97 => ⟨S1000000x2, .i32⟩
  | 98 => ⟨S_, .i32⟩
  | 99 => ⟨S1000000x2, .i32⟩
  | 100 => ⟨S1000000x2, .i32⟩
  | 101 => ⟨S_, .i32⟩
  | 102 => ⟨S1000000x2, .i32⟩
  | 103 => ⟨S1000000x2, .i32⟩
  | 104 => ⟨S1000000x2, .i32⟩
  | 105 => ⟨S1000000x2, .i32⟩
  | 106 => ⟨S1000000x2, .i32⟩
  | 107 => ⟨S1000000x2, .i32⟩
  | 108 => ⟨S1000000x2, .i32⟩
  | 109 => ⟨S1000000x2, .i32⟩
  | 110 => ⟨S_, .i32⟩
  | 111 => ⟨S1000000x2, .i32⟩
  | 112 => ⟨S1000000x2, .i32⟩
  | 113 => ⟨S1000000x2, .i32⟩
  | 114 => ⟨S_, .i32⟩
  | 115 => ⟨S1000000x2, .i32⟩
  | 116 => ⟨S1000000x2, .i32⟩
  | 117 => ⟨S_, .i32⟩
  | 118 => ⟨S1000000x2, .i32⟩
  | 119 => ⟨S1000000x2, .i32⟩
  | 120 => ⟨S1000000x2, .i32⟩
  | 121 => ⟨S1000000x2, .i32⟩
  | 122 => ⟨S1000000x2, .i32⟩
  | 123 => ⟨S_, .i32⟩
  | 124 => ⟨S1000000x2, .i32⟩
  | 125 => ⟨S1000000x2, .i32⟩
  | 126 => ⟨S_, .i32⟩
  | 127 => ⟨S1000000x2, .i32⟩
  | _ => ⟨S1000000x2, .f32⟩

abbrev hbmTy0_7 (i : Nat) : BufTy := match i % 128 with
  | 0 => ⟨S1000000x2, .i32⟩
  | 1 => ⟨S1000000x2, .i32⟩
  | 2 => ⟨S1000000x2, .i32⟩
  | 3 => ⟨S1000000x2, .i32⟩
  | 4 => ⟨S_, .i32⟩
  | 5 => ⟨S1000000x2, .i32⟩
  | 6 => ⟨S1000000x2, .i32⟩
  | 7 => ⟨S_, .i32⟩
  | 8 => ⟨S1000000x2, .i32⟩
  | 9 => ⟨S1000000x2, .i32⟩
  | 10 => ⟨S1000000x2, .i32⟩
  | 11 => ⟨S1000000x2, .i32⟩
  | 12 => ⟨S1000000x2, .i32⟩
  | 13 => ⟨S_, .i32⟩
  | 14 => ⟨S1000000x2, .i32⟩
  | 15 => ⟨S1000000x2, .i32⟩
  | 16 => ⟨S_, .i32⟩
  | 17 => ⟨S1000000x2, .i32⟩
  | 18 => ⟨S1000000x2, .i32⟩
  | 19 => ⟨S1000000x2, .i32⟩
  | 20 => ⟨S1000000x2, .i32⟩
  | 21 => ⟨S1000000x2, .i32⟩
  | 22 => ⟨S1000000x2, .i32⟩
  | 23 => ⟨S1000000x2, .i32⟩
  | 24 => ⟨S1000000x2, .i32⟩
  | 25 => ⟨S_, .i32⟩
  | 26 => ⟨S1000000x2, .i32⟩
  | 27 => ⟨S1000000x2, .i32⟩
  | 28 => ⟨S1000000x2, .i32⟩
  | 29 => ⟨S_, .i32⟩
  | 30 => ⟨S1000000x2, .i32⟩
  | 31 => ⟨S1000000x2, .i32⟩
  | 32 => ⟨S_, .i32⟩
  | 33 => ⟨S1000000x2, .i32⟩
  | 34 => ⟨S1000000x2, .i32⟩
  | 35 => ⟨S1000000x2, .i32⟩
  | 36 => ⟨S1000000x2, .i32⟩
  | 37 => ⟨S1000000x2, .i32⟩
  | 38 => ⟨S_, .i32⟩
  | 39 => ⟨S1000000x2, .i32⟩
  | 40 => ⟨S1000000x2, .i32⟩
  | 41 => ⟨S_, .i32⟩
  | 42 => ⟨S1000000x2, .i32⟩
  | 43 => ⟨S1000000x2, .i32⟩
  | 44 => ⟨S1000000x2, .i32⟩
  | 45 => ⟨S1000000x2, .i32⟩
  | 46 => ⟨S1000000x2, .i32⟩
  | 47 => ⟨S_, .i32⟩
  | 48 => ⟨S1000000x2, .i32⟩
  | 49 => ⟨S1000000x2, .i32⟩
  | 50 => ⟨S_, .i32⟩
  | 51 => ⟨S1000000x2, .i32⟩
  | 52 => ⟨S1000000x2, .i32⟩
  | 53 => ⟨S1000000x2, .i32⟩
  | 54 => ⟨S1000000x2, .i32⟩
  | 55 => ⟨S1000000x2, .i32⟩
  | 56 => ⟨S_, .i32⟩
  | 57 => ⟨S1000000x2, .i32⟩
  | 58 => ⟨S1000000x2, .i32⟩
  | 59 => ⟨S_, .i32⟩
  | 60 => ⟨S1000000x2, .i32⟩
  | 61 => ⟨S1000000x2, .i32⟩
  | 62 => ⟨S1000000x2, .i32⟩
  | 63 => ⟨S1000000x2, .i32⟩
  | 64 => ⟨S1000000x2, .i32⟩
  | 65 => ⟨S1000000x2, .i32⟩
  | 66 => ⟨S1000000x2, .i32⟩
  | 67 => ⟨S1000000x2, .i32⟩
  | 68 => ⟨S_, .i32⟩
  | 69 => ⟨S1000000x2, .i32⟩
  | 70 => ⟨S1000000x2, .i32⟩
  | 71 => ⟨S1000000x2, .i32⟩
  | 72 => ⟨S_, .i32⟩
  | 73 => ⟨S1000000x2, .i32⟩
  | 74 => ⟨S1000000x2, .i32⟩
  | 75 => ⟨S_, .i32⟩
  | 76 => ⟨S1000000x2, .i32⟩
  | 77 => ⟨S1000000x2, .i32⟩
  | 78 => ⟨S1000000x2, .f32⟩
  | 79 => ⟨S_, .f32⟩
  | 80 => ⟨S1000000x2, .f32⟩
  | 81 => ⟨S1000000x2, .f32⟩
  | 82 => ⟨S_, .f32⟩
  | 83 => ⟨S1000000x2, .f32⟩
  | 84 => ⟨S1000000x2, .f32⟩
  | 85 => ⟨S_, .f32⟩
  | 86 => ⟨S1000000x2, .f32⟩
  | 87 => ⟨S1000000x2, .f32⟩
  | 88 => ⟨S_, .f32⟩
  | 89 => ⟨S1000000x2, .f32⟩
  | 90 => ⟨S1000000x2, .f32⟩
  | 91 => ⟨S1000000x2, .f32⟩
  | 92 => ⟨S1000000x2, .f32⟩
  | 93 => ⟨S1000000x2, .f32⟩
  | 94 => ⟨S1000000x2, .f32⟩
  | 95 => ⟨S_, .f32⟩
  | 96 => ⟨S1000000x2, .f32⟩
  | 97 => ⟨S1000000x2, .i1⟩
  | 98 => ⟨S_, .f32⟩
  | 99 => ⟨S1000000x2, .f32⟩
  | 100 => ⟨S1000000x2, .f32⟩
  | 101 => ⟨S1000000x2, .f32⟩
  | 102 => ⟨S_, .f32⟩
  | 103 => ⟨S1000000x2, .f32⟩
  | 104 => ⟨S1000000x2, .f32⟩
  | 105 => ⟨S1000000x2, .f32⟩
  | 106 => ⟨S_, .f32⟩
  | 107 => ⟨S_, .f32⟩
  | 108 => ⟨S1000000x2, .f32⟩
  | 109 => ⟨S1000000x2, .f32⟩
  | 110 => ⟨S1000000x2, .f32⟩
  | 111 => ⟨S_, .f32⟩
  | 112 => ⟨S_, .f32⟩
  | 113 => ⟨S1000000x2, .f32⟩
  | 114 => ⟨S1000000x2, .f32⟩
  | 115 => ⟨S1000000x2, .f32⟩
  | 116 => ⟨S1000000x2, .f32⟩
  | 117 => ⟨S1000000x2, .f32⟩
  | 118 => ⟨S_, .f32⟩
  | 119 => ⟨S_, .f32⟩
  | 120 => ⟨S1000000x2, .f32⟩
  | 121 => ⟨S1000000x2, .f32⟩
  | 122 => ⟨S1000000x2, .f32⟩
  | 123 => ⟨S1000000x2, .f32⟩
  | 124 => ⟨S1000000x2, .f32⟩
  | 125 => ⟨S_, .f32⟩
  | 126 => ⟨S_, .f32⟩
  | 127 => ⟨S1000000x2, .f32⟩
  | _ => ⟨S1000000x2, .f32⟩

abbrev hbmTy0_8 (i : Nat) : BufTy := match i % 128 with
  | 0 => ⟨S1000000x2, .f32⟩
  | 1 => ⟨S1000000x2, .f32⟩
  | 2 => ⟨S1000000x2, .f32⟩
  | 3 => ⟨S1000000x2, .f32⟩
  | 4 => ⟨S_, .f32⟩
  | 5 => ⟨S_, .f32⟩
  | 6 => ⟨S1000000x2, .f32⟩
  | 7 => ⟨S1000000x2, .f32⟩
  | 8 => ⟨S1000000x2, .f32⟩
  | 9 => ⟨S1000000x2, .f32⟩
  | 10 => ⟨S1000000x2, .f32⟩
  | 11 => ⟨S_, .f32⟩
  | 12 => ⟨S_, .f32⟩
  | 13 => ⟨S1000000x2, .f32⟩
  | 14 => ⟨S1000000x2, .f32⟩
  | 15 => ⟨S1000000x2, .f32⟩
  | 16 => ⟨S1000000x2, .f32⟩
  | 17 => ⟨S1000000x2, .f32⟩
  | 18 => ⟨S_, .f32⟩
  | 19 => ⟨S_, .f32⟩
  | 20 => ⟨S1000000x2, .f32⟩
  | 21 => ⟨S1000000x2, .f32⟩
  | 22 => ⟨S1000000x2, .f32⟩
  | 23 => ⟨S1000000x2, .f32⟩
  | 24 => ⟨S1000000x2, .f32⟩
  | 25 => ⟨S_, .f32⟩
  | 26 => ⟨S_, .f32⟩
  | 27 => ⟨S1000000x2, .f32⟩
  | 28 => ⟨S1000000x2, .f32⟩
  | 29 => ⟨S1000000x2, .f32⟩
  | 30 => ⟨S1000000x2, .f32⟩
  | 31 => ⟨S1000000x2, .f32⟩
  | 32 => ⟨S_, .f32⟩
  | 33 => ⟨S_, .f32⟩
  | 34 => ⟨S1000000x2, .f32⟩
  | 35 => ⟨S1000000x2, .f32⟩
  | 36 => ⟨S1000000x2, .f32⟩
  | 37 => ⟨S1000000x2, .f32⟩
  | 38 => ⟨S1000000x2, .f32⟩
  | 39 => ⟨S1000000x2, .f32⟩
  | 40 => ⟨S_, .f32⟩
  | 41 => ⟨S1000000x2, .f32⟩
  | 42 => ⟨S1000000x2, .f32⟩
  | 43 => ⟨S1000000x2, .f32⟩
  | 44 => ⟨S1000000x2, .f32⟩
  | 45 => ⟨S1000000x2, .f32⟩
  | _ => ⟨S1000000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1000000x2, .f32⟩

abbrev bufTy : (tb : Table) → Fin (tcTables nBuf tb) → BufTy
  | .hbm, ⟨i, _⟩ => hbmTy i
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_c_1 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_9 : Ref sig .tc := ⟨.hbm, 66, rfl⟩
abbrev main_v32 : Ref sig .tc := ⟨.hbm, 67, rfl⟩
abbrev main_c_10 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_11 : Ref sig .tc := ⟨.hbm, 72, rfl⟩
abbrev main_v36 : Ref sig .tc := ⟨.hbm, 73, rfl⟩
abbrev main_c_12 : Ref sig .tc := ⟨.hbm, 74, rfl⟩
abbrev main_v37 : Ref sig .tc := ⟨.hbm, 75, rfl⟩
abbrev main_c_13 : Ref sig .tc := ⟨.hbm, 76, rfl⟩
abbrev main_v38 : Ref sig .tc := ⟨.hbm, 77, rfl⟩
abbrev main_v39 : Ref sig .tc := ⟨.hbm, 78, rfl⟩
abbrev main_c_14 : Ref sig .tc := ⟨.hbm, 79, rfl⟩
abbrev main_v40 : Ref sig .tc := ⟨.hbm, 80, rfl⟩
abbrev main_c_15 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_16 : Ref sig .tc := ⟨.hbm, 86, rfl⟩
abbrev main_v45 : Ref sig .tc := ⟨.hbm, 87, rfl⟩
abbrev main_c_17 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_18 : Ref sig .tc := ⟨.hbm, 93, rfl⟩
abbrev main_v50 : Ref sig .tc := ⟨.hbm, 94, rfl⟩
abbrev main_c_19 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_20 : Ref sig .tc := ⟨.hbm, 100, rfl⟩
abbrev main_v55 : Ref sig .tc := ⟨.hbm, 101, rfl⟩
abbrev main_c_21 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_c_22 : Ref sig .tc := ⟨.hbm, 106, rfl⟩
abbrev main_v59 : Ref sig .tc := ⟨.hbm, 107, rfl⟩
abbrev main_c_23 : Ref sig .tc := ⟨.hbm, 108, rfl⟩
abbrev main_v60 : Ref sig .tc := ⟨.hbm, 109, rfl⟩
abbrev main_c_24 : Ref sig .tc := ⟨.hbm, 110, rfl⟩
abbrev main_v61 : Ref sig .tc := ⟨.hbm, 111, rfl⟩
abbrev main_v62 : Ref sig .tc := ⟨.hbm, 112, rfl⟩
abbrev main_c_25 : Ref sig .tc := ⟨.hbm, 113, rfl⟩
abbrev main_v63 : Ref sig .tc := ⟨.hbm, 114, rfl⟩
abbrev main_c_26 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_27 : Ref sig .tc := ⟨.hbm, 120, rfl⟩
abbrev main_v68 : Ref sig .tc := ⟨.hbm, 121, rfl⟩
abbrev main_c_28 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_29 : Ref sig .tc := ⟨.hbm, 127, rfl⟩
abbrev main_v73 : Ref sig .tc := ⟨.hbm, 128, rfl⟩
abbrev main_c_30 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_c_31 : Ref sig .tc := ⟨.hbm, 134, rfl⟩
abbrev main_v78 : Ref sig .tc := ⟨.hbm, 135, rfl⟩
abbrev main_c_32 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_c_33 : Ref sig .tc := ⟨.hbm, 140, rfl⟩
abbrev main_v82 : Ref sig .tc := ⟨.hbm, 141, rfl⟩
abbrev main_c_34 : Ref sig .tc := ⟨.hbm, 142, rfl⟩
abbrev main_v83 : Ref sig .tc := ⟨.hbm, 143, rfl⟩
abbrev main_c_35 : Ref sig .tc := ⟨.hbm, 144, rfl⟩
abbrev main_v84 : Ref sig .tc := ⟨.hbm, 145, rfl⟩
abbrev main_v85 : Ref sig .tc := ⟨.hbm, 146, rfl⟩
abbrev main_c_36 : Ref sig .tc := ⟨.hbm, 147, rfl⟩
abbrev main_v86 : Ref sig .tc := ⟨.hbm, 148, rfl⟩
abbrev main_c_37 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_c_38 : Ref sig .tc := ⟨.hbm, 154, rfl⟩
abbrev main_v91 : Ref sig .tc := ⟨.hbm, 155, rfl⟩
abbrev main_c_39 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_c_40 : Ref sig .tc := ⟨.hbm, 161, rfl⟩
abbrev main_v96 : Ref sig .tc := ⟨.hbm, 162, rfl⟩
abbrev main_c_41 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_c_42 : Ref sig .tc := ⟨.hbm, 168, rfl⟩
abbrev main_v101 : Ref sig .tc := ⟨.hbm, 169, rfl⟩
abbrev main_c_43 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_c_44 : Ref sig .tc := ⟨.hbm, 174, rfl⟩
abbrev main_v105 : Ref sig .tc := ⟨.hbm, 175, rfl⟩
abbrev main_c_45 : Ref sig .tc := ⟨.hbm, 176, rfl⟩
abbrev main_v106 : Ref sig .tc := ⟨.hbm, 177, rfl⟩
abbrev main_c_46 : Ref sig .tc := ⟨.hbm, 178, rfl⟩
abbrev main_v107 : Ref sig .tc := ⟨.hbm, 179, rfl⟩
abbrev main_v108 : Ref sig .tc := ⟨.hbm, 180, rfl⟩
abbrev main_c_47 : Ref sig .tc := ⟨.hbm, 181, rfl⟩
abbrev main_v109 : Ref sig .tc := ⟨.hbm, 182, rfl⟩
abbrev main_c_48 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_c_49 : Ref sig .tc := ⟨.hbm, 188, rfl⟩
abbrev main_v114 : Ref sig .tc := ⟨.hbm, 189, rfl⟩
abbrev main_c_50 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_c_51 : Ref sig .tc := ⟨.hbm, 195, rfl⟩
abbrev main_v119 : Ref sig .tc := ⟨.hbm, 196, rfl⟩
abbrev main_c_52 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_c_53 : Ref sig .tc := ⟨.hbm, 202, rfl⟩
abbrev main_v124 : Ref sig .tc := ⟨.hbm, 203, rfl⟩
abbrev main_c_54 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_c_55 : Ref sig .tc := ⟨.hbm, 208, rfl⟩
abbrev main_v128 : Ref sig .tc := ⟨.hbm, 209, rfl⟩
abbrev main_c_56 : Ref sig .tc := ⟨.hbm, 210, rfl⟩
abbrev main_v129 : Ref sig .tc := ⟨.hbm, 211, rfl⟩
abbrev main_c_57 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_c_58 : Ref sig .tc := ⟨.hbm, 216, rfl⟩
abbrev main_v133 : Ref sig .tc := ⟨.hbm, 217, rfl⟩
abbrev main_v134 : Ref sig .tc := ⟨.hbm, 218, rfl⟩
abbrev main_c_59 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_c_60 : Ref sig .tc := ⟨.hbm, 226, rfl⟩
abbrev main_v141 : Ref sig .tc := ⟨.hbm, 227, rfl⟩
abbrev main_v142 : Ref sig .tc := ⟨.hbm, 228, rfl⟩
abbrev main_c_61 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_c_62 : Ref sig .tc := ⟨.hbm, 235, rfl⟩
abbrev main_v148 : Ref sig .tc := ⟨.hbm, 236, rfl⟩
abbrev main_v149 : Ref sig .tc := ⟨.hbm, 237, rfl⟩
abbrev main_c_63 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_c_64 : Ref sig .tc := ⟨.hbm, 244, rfl⟩
abbrev main_v155 : Ref sig .tc := ⟨.hbm, 245, rfl⟩
abbrev main_v156 : Ref sig .tc := ⟨.hbm, 246, rfl⟩
abbrev main_c_65 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_c_66 : Ref sig .tc := ⟨.hbm, 253, rfl⟩
abbrev main_v162 : Ref sig .tc := ⟨.hbm, 254, rfl⟩
abbrev main_v163 : Ref sig .tc := ⟨.hbm, 255, rfl⟩
abbrev main_c_67 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_c_68 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_c_69 : Ref sig .tc := ⟨.hbm, 269, rfl⟩
abbrev main_v175 : Ref sig .tc := ⟨.hbm, 270, rfl⟩
abbrev main_v176 : Ref sig .tc := ⟨.hbm, 271, rfl⟩
abbrev main_c_70 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_c_71 : Ref sig .tc := ⟨.hbm, 278, rfl⟩
abbrev main_v182 : Ref sig .tc := ⟨.hbm, 279, rfl⟩
abbrev main_v183 : Ref sig .tc := ⟨.hbm, 280, rfl⟩
abbrev main_c_72 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_c_73 : Ref sig .tc := ⟨.hbm, 287, rfl⟩
abbrev main_v189 : Ref sig .tc := ⟨.hbm, 288, rfl⟩
abbrev main_v190 : Ref sig .tc := ⟨.hbm, 289, rfl⟩
abbrev main_c_74 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_c_75 : Ref sig .tc := ⟨.hbm, 296, rfl⟩
abbrev main_v196 : Ref sig .tc := ⟨.hbm, 297, rfl⟩
abbrev main_v197 : Ref sig .tc := ⟨.hbm, 298, rfl⟩
abbrev main_c_76 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_c_77 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_c_78 : Ref sig .tc := ⟨.hbm, 312, rfl⟩
abbrev main_v209 : Ref sig .tc := ⟨.hbm, 313, rfl⟩
abbrev main_v210 : Ref sig .tc := ⟨.hbm, 314, rfl⟩
abbrev main_c_79 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_c_80 : Ref sig .tc := ⟨.hbm, 321, rfl⟩
abbrev main_v216 : Ref sig .tc := ⟨.hbm, 322, rfl⟩
abbrev main_v217 : Ref sig .tc := ⟨.hbm, 323, rfl⟩
abbrev main_c_81 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_c_82 : Ref sig .tc := ⟨.hbm, 330, rfl⟩
abbrev main_v223 : Ref sig .tc := ⟨.hbm, 331, rfl⟩
abbrev main_v224 : Ref sig .tc := ⟨.hbm, 332, rfl⟩
abbrev main_c_83 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_c_84 : Ref sig .tc := ⟨.hbm, 339, rfl⟩
abbrev main_v230 : Ref sig .tc := ⟨.hbm, 340, rfl⟩
abbrev main_v231 : Ref sig .tc := ⟨.hbm, 341, rfl⟩
abbrev main_c_85 : Ref sig .tc := ⟨.hbm, 342, rfl⟩
abbrev main_v232 : Ref sig .tc := ⟨.hbm, 343, rfl⟩
abbrev main_v233 : Ref sig .tc := ⟨.hbm, 344, rfl⟩
abbrev main_v234 : Ref sig .tc := ⟨.hbm, 345, rfl⟩
abbrev main_v235 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_c_86 : Ref sig .tc := ⟨.hbm, 351, rfl⟩
abbrev main_v240 : Ref sig .tc := ⟨.hbm, 352, rfl⟩
abbrev main_v241 : Ref sig .tc := ⟨.hbm, 353, rfl⟩
abbrev main_v242 : Ref sig .tc := ⟨.hbm, 354, rfl⟩
abbrev main_c_87 : Ref sig .tc := ⟨.hbm, 355, rfl⟩
abbrev main_v243 : Ref sig .tc := ⟨.hbm, 356, rfl⟩
abbrev main_v244 : Ref sig .tc := ⟨.hbm, 357, rfl⟩
abbrev main_c_88 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_c_89 : Ref sig .tc := ⟨.hbm, 364, rfl⟩
abbrev main_v250 : Ref sig .tc := ⟨.hbm, 365, rfl⟩
abbrev main_v251 : Ref sig .tc := ⟨.hbm, 366, rfl⟩
abbrev main_c_90 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_c_91 : Ref sig .tc := ⟨.hbm, 373, rfl⟩
abbrev main_v257 : Ref sig .tc := ⟨.hbm, 374, rfl⟩
abbrev main_v258 : Ref sig .tc := ⟨.hbm, 375, rfl⟩
abbrev main_c_92 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_c_93 : Ref sig .tc := ⟨.hbm, 382, rfl⟩
abbrev main_v264 : Ref sig .tc := ⟨.hbm, 383, rfl⟩
abbrev main_v265 : Ref sig .tc := ⟨.hbm, 384, rfl⟩
abbrev main_c_94 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_v273 : Ref sig .tc := ⟨.hbm, 393, rfl⟩
abbrev main_c_95 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_c_96 : Ref sig .tc := ⟨.hbm, 398, rfl⟩
abbrev main_v277 : Ref sig .tc := ⟨.hbm, 399, rfl⟩
abbrev main_v278 : Ref sig .tc := ⟨.hbm, 400, rfl⟩
abbrev main_c_97 : Ref sig .tc := ⟨.hbm, 401, rfl⟩
abbrev main_v279 : Ref sig .tc := ⟨.hbm, 402, rfl⟩
abbrev main_v280 : Ref sig .tc := ⟨.hbm, 403, rfl⟩
abbrev main_v281 : Ref sig .tc := ⟨.hbm, 404, rfl⟩
abbrev main_v282 : Ref sig .tc := ⟨.hbm, 405, rfl⟩
abbrev main_v283 : Ref sig .tc := ⟨.hbm, 406, rfl⟩
abbrev main_c_98 : Ref sig .tc := ⟨.hbm, 407, rfl⟩
abbrev main_v284 : Ref sig .tc := ⟨.hbm, 408, rfl⟩
abbrev main_v285 : Ref sig .tc := ⟨.hbm, 409, rfl⟩
abbrev main_c_99 : Ref sig .tc := ⟨.hbm, 410, rfl⟩
abbrev main_v286 : Ref sig .tc := ⟨.hbm, 411, rfl⟩
abbrev main_v287 : Ref sig .tc := ⟨.hbm, 412, rfl⟩
abbrev main_v288 : Ref sig .tc := ⟨.hbm, 413, rfl⟩
abbrev main_v289 : Ref sig .tc := ⟨.hbm, 414, rfl⟩
abbrev main_v290 : Ref sig .tc := ⟨.hbm, 415, rfl⟩
abbrev main_c_100 : Ref sig .tc := ⟨.hbm, 416, rfl⟩
abbrev main_v291 : Ref sig .tc := ⟨.hbm, 417, rfl⟩
abbrev main_v292 : Ref sig .tc := ⟨.hbm, 418, rfl⟩
abbrev main_c_101 : Ref sig .tc := ⟨.hbm, 419, rfl⟩
abbrev main_v293 : Ref sig .tc := ⟨.hbm, 420, rfl⟩
abbrev main_v294 : Ref sig .tc := ⟨.hbm, 421, rfl⟩
abbrev main_v295 : Ref sig .tc := ⟨.hbm, 422, rfl⟩
abbrev main_v296 : Ref sig .tc := ⟨.hbm, 423, rfl⟩
abbrev main_v297 : Ref sig .tc := ⟨.hbm, 424, rfl⟩
abbrev main_c_102 : Ref sig .tc := ⟨.hbm, 425, rfl⟩
abbrev main_v298 : Ref sig .tc := ⟨.hbm, 426, rfl⟩
abbrev main_v299 : Ref sig .tc := ⟨.hbm, 427, rfl⟩
abbrev main_c_103 : Ref sig .tc := ⟨.hbm, 428, rfl⟩
abbrev main_v300 : Ref sig .tc := ⟨.hbm, 429, rfl⟩
abbrev main_v301 : Ref sig .tc := ⟨.hbm, 430, rfl⟩
abbrev main_v302 : Ref sig .tc := ⟨.hbm, 431, rfl⟩
abbrev main_v303 : Ref sig .tc := ⟨.hbm, 432, rfl⟩
abbrev main_v304 : Ref sig .tc := ⟨.hbm, 433, rfl⟩
abbrev main_v305 : Ref sig .tc := ⟨.hbm, 434, rfl⟩
abbrev main_v306 : Ref sig .tc := ⟨.hbm, 435, rfl⟩
abbrev main_v307 : Ref sig .tc := ⟨.hbm, 436, rfl⟩
abbrev main_c_104 : Ref sig .tc := ⟨.hbm, 437, rfl⟩
abbrev main_v308 : Ref sig .tc := ⟨.hbm, 438, rfl⟩
abbrev main_v309 : Ref sig .tc := ⟨.hbm, 439, rfl⟩
abbrev main_v310 : Ref sig .tc := ⟨.hbm, 440, rfl⟩
abbrev main_c_105 : Ref sig .tc := ⟨.hbm, 441, rfl⟩
abbrev main_v311 : Ref sig .tc := ⟨.hbm, 442, rfl⟩
abbrev main_v312 : Ref sig .tc := ⟨.hbm, 443, rfl⟩
abbrev main_c_106 : Ref sig .tc := ⟨.hbm, 444, rfl⟩
abbrev main_v313 : Ref sig .tc := ⟨.hbm, 445, rfl⟩
abbrev main_v314 : Ref sig .tc := ⟨.hbm, 446, rfl⟩
abbrev main_v315 : Ref sig .tc := ⟨.hbm, 447, rfl⟩
abbrev main_cst_107 : Ref sig .tc := ⟨.hbm, 448, rfl⟩
abbrev main_v316 : Ref sig .tc := ⟨.hbm, 449, rfl⟩
abbrev main_v317 : Ref sig .tc := ⟨.hbm, 450, rfl⟩
abbrev main_cst_108 : Ref sig .tc := ⟨.hbm, 451, rfl⟩
abbrev main_v318 : Ref sig .tc := ⟨.hbm, 452, rfl⟩
abbrev main_v319 : Ref sig .tc := ⟨.hbm, 453, rfl⟩
abbrev main_v320 : Ref sig .tc := ⟨.hbm, 454, rfl⟩
abbrev main_v321 : Ref sig .tc := ⟨.hbm, 455, rfl⟩
abbrev main_v322 : Ref sig .tc := ⟨.hbm, 456, rfl⟩
abbrev main_v323 : Ref sig .tc := ⟨.hbm, 457, rfl⟩
abbrev main_v324 : Ref sig .tc := ⟨.hbm, 458, rfl⟩
abbrev main_cst_109 : Ref sig .tc := ⟨.hbm, 459, rfl⟩
abbrev main_v325 : Ref sig .tc := ⟨.hbm, 460, rfl⟩
abbrev main_v326 : Ref sig .tc := ⟨.hbm, 461, rfl⟩
abbrev main_v327 : Ref sig .tc := ⟨.hbm, 462, rfl⟩
abbrev main_v328 : Ref sig .tc := ⟨.hbm, 463, rfl⟩
abbrev main_v329 : Ref sig .tc := ⟨.hbm, 464, rfl⟩
abbrev main_c_110 : Ref sig .tc := ⟨.hbm, 465, rfl⟩
abbrev main_call1_v0 : Ref sig .tc := ⟨.hbm, 466, rfl⟩
abbrev main_call1_v1 : Ref sig .tc := ⟨.hbm, 467, rfl⟩
abbrev main_call1_v2 : Ref sig .tc := ⟨.hbm, 468, rfl⟩
abbrev main_v330 : Ref sig .tc := ⟨.hbm, 469, rfl⟩
abbrev main_c_111 : Ref sig .tc := ⟨.hbm, 470, rfl⟩
abbrev main_v331 : Ref sig .tc := ⟨.hbm, 471, rfl⟩
abbrev main_v332 : Ref sig .tc := ⟨.hbm, 472, rfl⟩
abbrev main_call2_c : Ref sig .tc := ⟨.hbm, 473, rfl⟩
abbrev main_call2_v0 : Ref sig .tc := ⟨.hbm, 474, rfl⟩
abbrev main_call2_v1 : Ref sig .tc := ⟨.hbm, 475, rfl⟩
abbrev main_call2_c_0 : Ref sig .tc := ⟨.hbm, 476, rfl⟩
abbrev main_call2_v2 : Ref sig .tc := ⟨.hbm, 477, rfl⟩
abbrev main_call2_v3 : Ref sig .tc := ⟨.hbm, 478, rfl⟩
abbrev main_call2_v4 : Ref sig .tc := ⟨.hbm, 479, rfl⟩
abbrev main_call2_c_1 : Ref sig .tc := ⟨.hbm, 480, rfl⟩
abbrev main_call2_c_2 : Ref sig .tc := ⟨.hbm, 481, rfl⟩
abbrev main_call2_v5 : Ref sig .tc := ⟨.hbm, 482, rfl⟩
abbrev main_call2_v6 : Ref sig .tc := ⟨.hbm, 483, rfl⟩
abbrev main_call2_v7 : Ref sig .tc := ⟨.hbm, 484, rfl⟩
abbrev main_call2_v8 : Ref sig .tc := ⟨.hbm, 485, rfl⟩
abbrev main_call2_v9 : Ref sig .tc := ⟨.hbm, 486, rfl⟩
abbrev main_call2_v10 : Ref sig .tc := ⟨.hbm, 487, rfl⟩
abbrev main_call2_c_3 : Ref sig .tc := ⟨.hbm, 488, rfl⟩
abbrev main_call2_v11 : Ref sig .tc := ⟨.hbm, 489, rfl⟩
abbrev main_call2_v12 : Ref sig .tc := ⟨.hbm, 490, rfl⟩
abbrev main_call2_v13 : Ref sig .tc := ⟨.hbm, 491, rfl⟩
abbrev main_call2_cst : Ref sig .tc := ⟨.hbm, 492, rfl⟩
abbrev main_call2_v14 : Ref sig .tc := ⟨.hbm, 493, rfl⟩
abbrev main_v333 : Ref sig .tc := ⟨.hbm, 494, rfl⟩
abbrev main_v334 : Ref sig .tc := ⟨.hbm, 495, rfl⟩
abbrev main_v335 : Ref sig .tc := ⟨.hbm, 496, rfl⟩
abbrev main_call3_c : Ref sig .tc := ⟨.hbm, 497, rfl⟩
abbrev main_call3_v0 : Ref sig .tc := ⟨.hbm, 498, rfl⟩
abbrev main_call3_v1 : Ref sig .tc := ⟨.hbm, 499, rfl⟩
abbrev main_call3_c_0 : Ref sig .tc := ⟨.hbm, 500, rfl⟩
abbrev main_call3_v2 : Ref sig .tc := ⟨.hbm, 501, rfl⟩
abbrev main_call3_v3 : Ref sig .tc := ⟨.hbm, 502, rfl⟩
abbrev main_call3_v4 : Ref sig .tc := ⟨.hbm, 503, rfl⟩
abbrev main_call3_v5 : Ref sig .tc := ⟨.hbm, 504, rfl⟩
abbrev main_call3_c_1 : Ref sig .tc := ⟨.hbm, 505, rfl⟩
abbrev main_call3_c_2 : Ref sig .tc := ⟨.hbm, 506, rfl⟩
abbrev main_call3_v6 : Ref sig .tc := ⟨.hbm, 507, rfl⟩
abbrev main_call3_v7 : Ref sig .tc := ⟨.hbm, 508, rfl⟩
abbrev main_call3_v8 : Ref sig .tc := ⟨.hbm, 509, rfl⟩
abbrev main_call3_v9 : Ref sig .tc := ⟨.hbm, 510, rfl⟩
abbrev main_call3_v10 : Ref sig .tc := ⟨.hbm, 511, rfl⟩
abbrev main_call3_v11 : Ref sig .tc := ⟨.hbm, 512, rfl⟩
abbrev main_call3_c_3 : Ref sig .tc := ⟨.hbm, 513, rfl⟩
abbrev main_call3_v12 : Ref sig .tc := ⟨.hbm, 514, rfl⟩
abbrev main_call3_v13 : Ref sig .tc := ⟨.hbm, 515, rfl⟩
abbrev main_call3_v14 : Ref sig .tc := ⟨.hbm, 516, rfl⟩
abbrev main_call3_cst : Ref sig .tc := ⟨.hbm, 517, rfl⟩
abbrev main_call3_v15 : Ref sig .tc := ⟨.hbm, 518, rfl⟩
abbrev main_v336 : Ref sig .tc := ⟨.hbm, 519, rfl⟩
abbrev main_v337 : Ref sig .tc := ⟨.hbm, 520, rfl⟩
abbrev main_call4_v0 : Ref sig .tc := ⟨.hbm, 521, rfl⟩
abbrev main_call4_v1 : Ref sig .tc := ⟨.hbm, 522, rfl⟩
abbrev main_call4_c : Ref sig .tc := ⟨.hbm, 523, rfl⟩
abbrev main_call4_v2 : Ref sig .tc := ⟨.hbm, 524, rfl⟩
abbrev main_call4_v3 : Ref sig .tc := ⟨.hbm, 525, rfl⟩
abbrev main_call4_c_0 : Ref sig .tc := ⟨.hbm, 526, rfl⟩
abbrev main_call4_v4 : Ref sig .tc := ⟨.hbm, 527, rfl⟩
abbrev main_call4_v5 : Ref sig .tc := ⟨.hbm, 528, rfl⟩
abbrev main_call4_v6 : Ref sig .tc := ⟨.hbm, 529, rfl⟩
abbrev main_call4_c_1 : Ref sig .tc := ⟨.hbm, 530, rfl⟩
abbrev main_call4_v7 : Ref sig .tc := ⟨.hbm, 531, rfl⟩
abbrev main_call4_v8 : Ref sig .tc := ⟨.hbm, 532, rfl⟩
abbrev main_call4_c_2 : Ref sig .tc := ⟨.hbm, 533, rfl⟩
abbrev main_call4_v9 : Ref sig .tc := ⟨.hbm, 534, rfl⟩
abbrev main_call4_v10 : Ref sig .tc := ⟨.hbm, 535, rfl⟩
abbrev main_call4_v11 : Ref sig .tc := ⟨.hbm, 536, rfl⟩
abbrev main_call4_v12 : Ref sig .tc := ⟨.hbm, 537, rfl⟩
abbrev main_call4_v13 : Ref sig .tc := ⟨.hbm, 538, rfl⟩
abbrev main_call4_v14 : Ref sig .tc := ⟨.hbm, 539, rfl⟩
abbrev main_v338 : Ref sig .tc := ⟨.hbm, 540, rfl⟩
abbrev main_v339 : Ref sig .tc := ⟨.hbm, 541, rfl⟩
abbrev main_call5_v0 : Ref sig .tc := ⟨.hbm, 542, rfl⟩
abbrev main_call5_c : Ref sig .tc := ⟨.hbm, 543, rfl⟩
abbrev main_call5_v1 : Ref sig .tc := ⟨.hbm, 544, rfl⟩
abbrev main_call5_v2 : Ref sig .tc := ⟨.hbm, 545, rfl⟩
abbrev main_call5_v3 : Ref sig .tc := ⟨.hbm, 546, rfl⟩
abbrev main_call5_v4 : Ref sig .tc := ⟨.hbm, 547, rfl⟩
abbrev main_call5_v5 : Ref sig .tc := ⟨.hbm, 548, rfl⟩
abbrev main_call5_cst : Ref sig .tc := ⟨.hbm, 549, rfl⟩
abbrev main_call5_v6 : Ref sig .tc := ⟨.hbm, 550, rfl⟩
abbrev main_v340 : Ref sig .tc := ⟨.hbm, 551, rfl⟩
abbrev main_v341 : Ref sig .tc := ⟨.hbm, 552, rfl⟩
abbrev main_v342 : Ref sig .tc := ⟨.hbm, 553, rfl⟩
abbrev main_v343 : Ref sig .tc := ⟨.hbm, 554, rfl⟩
abbrev main_c_112 : Ref sig .tc := ⟨.hbm, 555, rfl⟩
abbrev main_v344 : Ref sig .tc := ⟨.hbm, 556, rfl⟩
abbrev main_v345 : Ref sig .tc := ⟨.hbm, 557, rfl⟩
abbrev main_v346 : Ref sig .tc := ⟨.hbm, 558, rfl⟩
abbrev main_v347 : Ref sig .tc := ⟨.hbm, 559, rfl⟩
abbrev main_v348 : Ref sig .tc := ⟨.hbm, 560, rfl⟩
abbrev main_v349 : Ref sig .tc := ⟨.hbm, 561, rfl⟩
abbrev main_v350 : Ref sig .tc := ⟨.hbm, 562, rfl⟩
abbrev main_v351 : Ref sig .tc := ⟨.hbm, 563, rfl⟩
abbrev main_v352 : Ref sig .tc := ⟨.hbm, 564, rfl⟩
abbrev main_v353 : Ref sig .tc := ⟨.hbm, 565, rfl⟩
abbrev main_c_113 : Ref sig .tc := ⟨.hbm, 566, rfl⟩
abbrev main_c_114 : Ref sig .tc := ⟨.hbm, 567, rfl⟩
abbrev main_v354 : Ref sig .tc := ⟨.hbm, 568, rfl⟩
abbrev main_c_115 : Ref sig .tc := ⟨.hbm, 569, rfl⟩
abbrev main_v355 : Ref sig .tc := ⟨.hbm, 570, rfl⟩
abbrev main_v356 : Ref sig .tc := ⟨.hbm, 571, rfl⟩
abbrev main_c_116 : Ref sig .tc := ⟨.hbm, 572, rfl⟩
abbrev main_v357 : Ref sig .tc := ⟨.hbm, 573, rfl⟩
abbrev main_c_117 : Ref sig .tc := ⟨.hbm, 574, rfl⟩
abbrev main_v358 : Ref sig .tc := ⟨.hbm, 575, rfl⟩
abbrev main_v359 : Ref sig .tc := ⟨.hbm, 576, rfl⟩
abbrev main_v360 : Ref sig .tc := ⟨.hbm, 577, rfl⟩
abbrev main_v361 : Ref sig .tc := ⟨.hbm, 578, rfl⟩
abbrev main_c_118 : Ref sig .tc := ⟨.hbm, 579, rfl⟩
abbrev main_v362 : Ref sig .tc := ⟨.hbm, 580, rfl⟩
abbrev main_c_119 : Ref sig .tc := ⟨.hbm, 581, rfl⟩
abbrev main_v363 : Ref sig .tc := ⟨.hbm, 582, rfl⟩
abbrev main_v364 : Ref sig .tc := ⟨.hbm, 583, rfl⟩
abbrev main_v365 : Ref sig .tc := ⟨.hbm, 584, rfl⟩
abbrev main_v366 : Ref sig .tc := ⟨.hbm, 585, rfl⟩
abbrev main_c_120 : Ref sig .tc := ⟨.hbm, 586, rfl⟩
abbrev main_v367 : Ref sig .tc := ⟨.hbm, 587, rfl⟩
abbrev main_c_121 : Ref sig .tc := ⟨.hbm, 588, rfl⟩
abbrev main_v368 : Ref sig .tc := ⟨.hbm, 589, rfl⟩
abbrev main_v369 : Ref sig .tc := ⟨.hbm, 590, rfl⟩
abbrev main_v370 : Ref sig .tc := ⟨.hbm, 591, rfl⟩
abbrev main_v371 : Ref sig .tc := ⟨.hbm, 592, rfl⟩
abbrev main_c_122 : Ref sig .tc := ⟨.hbm, 593, rfl⟩
abbrev main_v372 : Ref sig .tc := ⟨.hbm, 594, rfl⟩
abbrev main_c_123 : Ref sig .tc := ⟨.hbm, 595, rfl⟩
abbrev main_v373 : Ref sig .tc := ⟨.hbm, 596, rfl⟩
abbrev main_v374 : Ref sig .tc := ⟨.hbm, 597, rfl⟩
abbrev main_v375 : Ref sig .tc := ⟨.hbm, 598, rfl⟩
abbrev main_c_124 : Ref sig .tc := ⟨.hbm, 599, rfl⟩
abbrev main_v376 : Ref sig .tc := ⟨.hbm, 600, rfl⟩
abbrev main_c_125 : Ref sig .tc := ⟨.hbm, 601, rfl⟩
abbrev main_v377 : Ref sig .tc := ⟨.hbm, 602, rfl⟩
abbrev main_c_126 : Ref sig .tc := ⟨.hbm, 603, rfl⟩
abbrev main_v378 : Ref sig .tc := ⟨.hbm, 604, rfl⟩
abbrev main_v379 : Ref sig .tc := ⟨.hbm, 605, rfl⟩
abbrev main_c_127 : Ref sig .tc := ⟨.hbm, 606, rfl⟩
abbrev main_v380 : Ref sig .tc := ⟨.hbm, 607, rfl⟩
abbrev main_c_128 : Ref sig .tc := ⟨.hbm, 608, rfl⟩
abbrev main_v381 : Ref sig .tc := ⟨.hbm, 609, rfl⟩
abbrev main_v382 : Ref sig .tc := ⟨.hbm, 610, rfl⟩
abbrev main_v383 : Ref sig .tc := ⟨.hbm, 611, rfl⟩
abbrev main_v384 : Ref sig .tc := ⟨.hbm, 612, rfl⟩
abbrev main_c_129 : Ref sig .tc := ⟨.hbm, 613, rfl⟩
abbrev main_v385 : Ref sig .tc := ⟨.hbm, 614, rfl⟩
abbrev main_c_130 : Ref sig .tc := ⟨.hbm, 615, rfl⟩
abbrev main_v386 : Ref sig .tc := ⟨.hbm, 616, rfl⟩
abbrev main_v387 : Ref sig .tc := ⟨.hbm, 617, rfl⟩
abbrev main_v388 : Ref sig .tc := ⟨.hbm, 618, rfl⟩
abbrev main_v389 : Ref sig .tc := ⟨.hbm, 619, rfl⟩
abbrev main_c_131 : Ref sig .tc := ⟨.hbm, 620, rfl⟩
abbrev main_v390 : Ref sig .tc := ⟨.hbm, 621, rfl⟩
abbrev main_c_132 : Ref sig .tc := ⟨.hbm, 622, rfl⟩
abbrev main_v391 : Ref sig .tc := ⟨.hbm, 623, rfl⟩
abbrev main_v392 : Ref sig .tc := ⟨.hbm, 624, rfl⟩
abbrev main_v393 : Ref sig .tc := ⟨.hbm, 625, rfl⟩
abbrev main_v394 : Ref sig .tc := ⟨.hbm, 626, rfl⟩
abbrev main_c_133 : Ref sig .tc := ⟨.hbm, 627, rfl⟩
abbrev main_v395 : Ref sig .tc := ⟨.hbm, 628, rfl⟩
abbrev main_c_134 : Ref sig .tc := ⟨.hbm, 629, rfl⟩
abbrev main_v396 : Ref sig .tc := ⟨.hbm, 630, rfl⟩
abbrev main_v397 : Ref sig .tc := ⟨.hbm, 631, rfl⟩
abbrev main_v398 : Ref sig .tc := ⟨.hbm, 632, rfl⟩
abbrev main_c_135 : Ref sig .tc := ⟨.hbm, 633, rfl⟩
abbrev main_v399 : Ref sig .tc := ⟨.hbm, 634, rfl⟩
abbrev main_c_136 : Ref sig .tc := ⟨.hbm, 635, rfl⟩
abbrev main_v400 : Ref sig .tc := ⟨.hbm, 636, rfl⟩
abbrev main_c_137 : Ref sig .tc := ⟨.hbm, 637, rfl⟩
abbrev main_v401 : Ref sig .tc := ⟨.hbm, 638, rfl⟩
abbrev main_v402 : Ref sig .tc := ⟨.hbm, 639, rfl⟩
abbrev main_c_138 : Ref sig .tc := ⟨.hbm, 640, rfl⟩
abbrev main_v403 : Ref sig .tc := ⟨.hbm, 641, rfl⟩
abbrev main_c_139 : Ref sig .tc := ⟨.hbm, 642, rfl⟩
abbrev main_v404 : Ref sig .tc := ⟨.hbm, 643, rfl⟩
abbrev main_v405 : Ref sig .tc := ⟨.hbm, 644, rfl⟩
abbrev main_v406 : Ref sig .tc := ⟨.hbm, 645, rfl⟩
abbrev main_v407 : Ref sig .tc := ⟨.hbm, 646, rfl⟩
abbrev main_c_140 : Ref sig .tc := ⟨.hbm, 647, rfl⟩
abbrev main_v408 : Ref sig .tc := ⟨.hbm, 648, rfl⟩
abbrev main_c_141 : Ref sig .tc := ⟨.hbm, 649, rfl⟩
abbrev main_v409 : Ref sig .tc := ⟨.hbm, 650, rfl⟩
abbrev main_v410 : Ref sig .tc := ⟨.hbm, 651, rfl⟩
abbrev main_v411 : Ref sig .tc := ⟨.hbm, 652, rfl⟩
abbrev main_v412 : Ref sig .tc := ⟨.hbm, 653, rfl⟩
abbrev main_c_142 : Ref sig .tc := ⟨.hbm, 654, rfl⟩
abbrev main_v413 : Ref sig .tc := ⟨.hbm, 655, rfl⟩
abbrev main_c_143 : Ref sig .tc := ⟨.hbm, 656, rfl⟩
abbrev main_v414 : Ref sig .tc := ⟨.hbm, 657, rfl⟩
abbrev main_v415 : Ref sig .tc := ⟨.hbm, 658, rfl⟩
abbrev main_v416 : Ref sig .tc := ⟨.hbm, 659, rfl⟩
abbrev main_v417 : Ref sig .tc := ⟨.hbm, 660, rfl⟩
abbrev main_c_144 : Ref sig .tc := ⟨.hbm, 661, rfl⟩
abbrev main_v418 : Ref sig .tc := ⟨.hbm, 662, rfl⟩
abbrev main_c_145 : Ref sig .tc := ⟨.hbm, 663, rfl⟩
abbrev main_v419 : Ref sig .tc := ⟨.hbm, 664, rfl⟩
abbrev main_v420 : Ref sig .tc := ⟨.hbm, 665, rfl⟩
abbrev main_v421 : Ref sig .tc := ⟨.hbm, 666, rfl⟩
abbrev main_c_146 : Ref sig .tc := ⟨.hbm, 667, rfl⟩
abbrev main_v422 : Ref sig .tc := ⟨.hbm, 668, rfl⟩
abbrev main_c_147 : Ref sig .tc := ⟨.hbm, 669, rfl⟩
abbrev main_v423 : Ref sig .tc := ⟨.hbm, 670, rfl⟩
abbrev main_c_148 : Ref sig .tc := ⟨.hbm, 671, rfl⟩
abbrev main_v424 : Ref sig .tc := ⟨.hbm, 672, rfl⟩
abbrev main_v425 : Ref sig .tc := ⟨.hbm, 673, rfl⟩
abbrev main_c_149 : Ref sig .tc := ⟨.hbm, 674, rfl⟩
abbrev main_v426 : Ref sig .tc := ⟨.hbm, 675, rfl⟩
abbrev main_c_150 : Ref sig .tc := ⟨.hbm, 676, rfl⟩
abbrev main_v427 : Ref sig .tc := ⟨.hbm, 677, rfl⟩
abbrev main_v428 : Ref sig .tc := ⟨.hbm, 678, rfl⟩
abbrev main_v429 : Ref sig .tc := ⟨.hbm, 679, rfl⟩
abbrev main_v430 : Ref sig .tc := ⟨.hbm, 680, rfl⟩
abbrev main_c_151 : Ref sig .tc := ⟨.hbm, 681, rfl⟩
abbrev main_v431 : Ref sig .tc := ⟨.hbm, 682, rfl⟩
abbrev main_c_152 : Ref sig .tc := ⟨.hbm, 683, rfl⟩
abbrev main_v432 : Ref sig .tc := ⟨.hbm, 684, rfl⟩
abbrev main_v433 : Ref sig .tc := ⟨.hbm, 685, rfl⟩
abbrev main_v434 : Ref sig .tc := ⟨.hbm, 686, rfl⟩
abbrev main_v435 : Ref sig .tc := ⟨.hbm, 687, rfl⟩
abbrev main_c_153 : Ref sig .tc := ⟨.hbm, 688, rfl⟩
abbrev main_v436 : Ref sig .tc := ⟨.hbm, 689, rfl⟩
abbrev main_c_154 : Ref sig .tc := ⟨.hbm, 690, rfl⟩
abbrev main_v437 : Ref sig .tc := ⟨.hbm, 691, rfl⟩
abbrev main_v438 : Ref sig .tc := ⟨.hbm, 692, rfl⟩
abbrev main_v439 : Ref sig .tc := ⟨.hbm, 693, rfl⟩
abbrev main_v440 : Ref sig .tc := ⟨.hbm, 694, rfl⟩
abbrev main_c_155 : Ref sig .tc := ⟨.hbm, 695, rfl⟩
abbrev main_v441 : Ref sig .tc := ⟨.hbm, 696, rfl⟩
abbrev main_c_156 : Ref sig .tc := ⟨.hbm, 697, rfl⟩
abbrev main_v442 : Ref sig .tc := ⟨.hbm, 698, rfl⟩
abbrev main_v443 : Ref sig .tc := ⟨.hbm, 699, rfl⟩
abbrev main_v444 : Ref sig .tc := ⟨.hbm, 700, rfl⟩
abbrev main_c_157 : Ref sig .tc := ⟨.hbm, 701, rfl⟩
abbrev main_v445 : Ref sig .tc := ⟨.hbm, 702, rfl⟩
abbrev main_c_158 : Ref sig .tc := ⟨.hbm, 703, rfl⟩
abbrev main_v446 : Ref sig .tc := ⟨.hbm, 704, rfl⟩
abbrev main_c_159 : Ref sig .tc := ⟨.hbm, 705, rfl⟩
abbrev main_v447 : Ref sig .tc := ⟨.hbm, 706, rfl⟩
abbrev main_v448 : Ref sig .tc := ⟨.hbm, 707, rfl⟩
abbrev main_c_160 : Ref sig .tc := ⟨.hbm, 708, rfl⟩
abbrev main_v449 : Ref sig .tc := ⟨.hbm, 709, rfl⟩
abbrev main_c_161 : Ref sig .tc := ⟨.hbm, 710, rfl⟩
abbrev main_v450 : Ref sig .tc := ⟨.hbm, 711, rfl⟩
abbrev main_v451 : Ref sig .tc := ⟨.hbm, 712, rfl⟩
abbrev main_v452 : Ref sig .tc := ⟨.hbm, 713, rfl⟩
abbrev main_v453 : Ref sig .tc := ⟨.hbm, 714, rfl⟩
abbrev main_c_162 : Ref sig .tc := ⟨.hbm, 715, rfl⟩
abbrev main_v454 : Ref sig .tc := ⟨.hbm, 716, rfl⟩
abbrev main_c_163 : Ref sig .tc := ⟨.hbm, 717, rfl⟩
abbrev main_v455 : Ref sig .tc := ⟨.hbm, 718, rfl⟩
abbrev main_v456 : Ref sig .tc := ⟨.hbm, 719, rfl⟩
abbrev main_v457 : Ref sig .tc := ⟨.hbm, 720, rfl⟩
abbrev main_v458 : Ref sig .tc := ⟨.hbm, 721, rfl⟩
abbrev main_c_164 : Ref sig .tc := ⟨.hbm, 722, rfl⟩
abbrev main_v459 : Ref sig .tc := ⟨.hbm, 723, rfl⟩
abbrev main_c_165 : Ref sig .tc := ⟨.hbm, 724, rfl⟩
abbrev main_v460 : Ref sig .tc := ⟨.hbm, 725, rfl⟩
abbrev main_v461 : Ref sig .tc := ⟨.hbm, 726, rfl⟩
abbrev main_v462 : Ref sig .tc := ⟨.hbm, 727, rfl⟩
abbrev main_v463 : Ref sig .tc := ⟨.hbm, 728, rfl⟩
abbrev main_c_166 : Ref sig .tc := ⟨.hbm, 729, rfl⟩
abbrev main_v464 : Ref sig .tc := ⟨.hbm, 730, rfl⟩
abbrev main_c_167 : Ref sig .tc := ⟨.hbm, 731, rfl⟩
abbrev main_v465 : Ref sig .tc := ⟨.hbm, 732, rfl⟩
abbrev main_v466 : Ref sig .tc := ⟨.hbm, 733, rfl⟩
abbrev main_v467 : Ref sig .tc := ⟨.hbm, 734, rfl⟩
abbrev main_c_168 : Ref sig .tc := ⟨.hbm, 735, rfl⟩
abbrev main_v468 : Ref sig .tc := ⟨.hbm, 736, rfl⟩
abbrev main_c_169 : Ref sig .tc := ⟨.hbm, 737, rfl⟩
abbrev main_v469 : Ref sig .tc := ⟨.hbm, 738, rfl⟩
abbrev main_c_170 : Ref sig .tc := ⟨.hbm, 739, rfl⟩
abbrev main_v470 : Ref sig .tc := ⟨.hbm, 740, rfl⟩
abbrev main_v471 : Ref sig .tc := ⟨.hbm, 741, rfl⟩
abbrev main_v472 : Ref sig .tc := ⟨.hbm, 742, rfl⟩
abbrev main_c_171 : Ref sig .tc := ⟨.hbm, 743, rfl⟩
abbrev main_v473 : Ref sig .tc := ⟨.hbm, 744, rfl⟩
abbrev main_v474 : Ref sig .tc := ⟨.hbm, 745, rfl⟩
abbrev main_c_172 : Ref sig .tc := ⟨.hbm, 746, rfl⟩
abbrev main_v475 : Ref sig .tc := ⟨.hbm, 747, rfl⟩
abbrev main_v476 : Ref sig .tc := ⟨.hbm, 748, rfl⟩
abbrev main_v477 : Ref sig .tc := ⟨.hbm, 749, rfl⟩
abbrev main_v478 : Ref sig .tc := ⟨.hbm, 750, rfl⟩
abbrev main_v479 : Ref sig .tc := ⟨.hbm, 751, rfl⟩
abbrev main_v480 : Ref sig .tc := ⟨.hbm, 752, rfl⟩
abbrev main_c_173 : Ref sig .tc := ⟨.hbm, 753, rfl⟩
abbrev main_v481 : Ref sig .tc := ⟨.hbm, 754, rfl⟩
abbrev main_v482 : Ref sig .tc := ⟨.hbm, 755, rfl⟩
abbrev main_c_174 : Ref sig .tc := ⟨.hbm, 756, rfl⟩
abbrev main_v483 : Ref sig .tc := ⟨.hbm, 757, rfl⟩
abbrev main_v484 : Ref sig .tc := ⟨.hbm, 758, rfl⟩
abbrev main_v485 : Ref sig .tc := ⟨.hbm, 759, rfl⟩
abbrev main_v486 : Ref sig .tc := ⟨.hbm, 760, rfl⟩
abbrev main_v487 : Ref sig .tc := ⟨.hbm, 761, rfl⟩
abbrev main_c_175 : Ref sig .tc := ⟨.hbm, 762, rfl⟩
abbrev main_v488 : Ref sig .tc := ⟨.hbm, 763, rfl⟩
abbrev main_v489 : Ref sig .tc := ⟨.hbm, 764, rfl⟩
abbrev main_c_176 : Ref sig .tc := ⟨.hbm, 765, rfl⟩
abbrev main_v490 : Ref sig .tc := ⟨.hbm, 766, rfl⟩
abbrev main_v491 : Ref sig .tc := ⟨.hbm, 767, rfl⟩
abbrev main_v492 : Ref sig .tc := ⟨.hbm, 768, rfl⟩
abbrev main_v493 : Ref sig .tc := ⟨.hbm, 769, rfl⟩
abbrev main_v494 : Ref sig .tc := ⟨.hbm, 770, rfl⟩
abbrev main_c_177 : Ref sig .tc := ⟨.hbm, 771, rfl⟩
abbrev main_v495 : Ref sig .tc := ⟨.hbm, 772, rfl⟩
abbrev main_v496 : Ref sig .tc := ⟨.hbm, 773, rfl⟩
abbrev main_c_178 : Ref sig .tc := ⟨.hbm, 774, rfl⟩
abbrev main_v497 : Ref sig .tc := ⟨.hbm, 775, rfl⟩
abbrev main_v498 : Ref sig .tc := ⟨.hbm, 776, rfl⟩
abbrev main_v499 : Ref sig .tc := ⟨.hbm, 777, rfl⟩
abbrev main_v500 : Ref sig .tc := ⟨.hbm, 778, rfl⟩
abbrev main_v501 : Ref sig .tc := ⟨.hbm, 779, rfl⟩
abbrev main_c_179 : Ref sig .tc := ⟨.hbm, 780, rfl⟩
abbrev main_v502 : Ref sig .tc := ⟨.hbm, 781, rfl⟩
abbrev main_v503 : Ref sig .tc := ⟨.hbm, 782, rfl⟩
abbrev main_c_180 : Ref sig .tc := ⟨.hbm, 783, rfl⟩
abbrev main_v504 : Ref sig .tc := ⟨.hbm, 784, rfl⟩
abbrev main_v505 : Ref sig .tc := ⟨.hbm, 785, rfl⟩
abbrev main_v506 : Ref sig .tc := ⟨.hbm, 786, rfl⟩
abbrev main_v507 : Ref sig .tc := ⟨.hbm, 787, rfl⟩
abbrev main_v508 : Ref sig .tc := ⟨.hbm, 788, rfl⟩
abbrev main_v509 : Ref sig .tc := ⟨.hbm, 789, rfl⟩
abbrev main_v510 : Ref sig .tc := ⟨.hbm, 790, rfl⟩
abbrev main_v511 : Ref sig .tc := ⟨.hbm, 791, rfl⟩
abbrev main_c_181 : Ref sig .tc := ⟨.hbm, 792, rfl⟩
abbrev main_v512 : Ref sig .tc := ⟨.hbm, 793, rfl⟩
abbrev main_v513 : Ref sig .tc := ⟨.hbm, 794, rfl⟩
abbrev main_v514 : Ref sig .tc := ⟨.hbm, 795, rfl⟩
abbrev main_c_182 : Ref sig .tc := ⟨.hbm, 796, rfl⟩
abbrev main_v515 : Ref sig .tc := ⟨.hbm, 797, rfl⟩
abbrev main_v516 : Ref sig .tc := ⟨.hbm, 798, rfl⟩
abbrev main_c_183 : Ref sig .tc := ⟨.hbm, 799, rfl⟩
abbrev main_v517 : Ref sig .tc := ⟨.hbm, 800, rfl⟩
abbrev main_v518 : Ref sig .tc := ⟨.hbm, 801, rfl⟩
abbrev main_v519 : Ref sig .tc := ⟨.hbm, 802, rfl⟩
abbrev main_v520 : Ref sig .tc := ⟨.hbm, 803, rfl⟩
abbrev main_v521 : Ref sig .tc := ⟨.hbm, 804, rfl⟩
abbrev main_c_184 : Ref sig .tc := ⟨.hbm, 805, rfl⟩
abbrev main_v522 : Ref sig .tc := ⟨.hbm, 806, rfl⟩
abbrev main_v523 : Ref sig .tc := ⟨.hbm, 807, rfl⟩
abbrev main_c_185 : Ref sig .tc := ⟨.hbm, 808, rfl⟩
abbrev main_v524 : Ref sig .tc := ⟨.hbm, 809, rfl⟩
abbrev main_v525 : Ref sig .tc := ⟨.hbm, 810, rfl⟩
abbrev main_v526 : Ref sig .tc := ⟨.hbm, 811, rfl⟩
abbrev main_v527 : Ref sig .tc := ⟨.hbm, 812, rfl⟩
abbrev main_v528 : Ref sig .tc := ⟨.hbm, 813, rfl⟩
abbrev main_c_186 : Ref sig .tc := ⟨.hbm, 814, rfl⟩
abbrev main_v529 : Ref sig .tc := ⟨.hbm, 815, rfl⟩
abbrev main_v530 : Ref sig .tc := ⟨.hbm, 816, rfl⟩
abbrev main_c_187 : Ref sig .tc := ⟨.hbm, 817, rfl⟩
abbrev main_v531 : Ref sig .tc := ⟨.hbm, 818, rfl⟩
abbrev main_v532 : Ref sig .tc := ⟨.hbm, 819, rfl⟩
abbrev main_v533 : Ref sig .tc := ⟨.hbm, 820, rfl⟩
abbrev main_v534 : Ref sig .tc := ⟨.hbm, 821, rfl⟩
abbrev main_v535 : Ref sig .tc := ⟨.hbm, 822, rfl⟩
abbrev main_c_188 : Ref sig .tc := ⟨.hbm, 823, rfl⟩
abbrev main_v536 : Ref sig .tc := ⟨.hbm, 824, rfl⟩
abbrev main_v537 : Ref sig .tc := ⟨.hbm, 825, rfl⟩
abbrev main_c_189 : Ref sig .tc := ⟨.hbm, 826, rfl⟩
abbrev main_v538 : Ref sig .tc := ⟨.hbm, 827, rfl⟩
abbrev main_v539 : Ref sig .tc := ⟨.hbm, 828, rfl⟩
abbrev main_v540 : Ref sig .tc := ⟨.hbm, 829, rfl⟩
abbrev main_v541 : Ref sig .tc := ⟨.hbm, 830, rfl⟩
abbrev main_v542 : Ref sig .tc := ⟨.hbm, 831, rfl⟩
abbrev main_v543 : Ref sig .tc := ⟨.hbm, 832, rfl⟩
abbrev main_v544 : Ref sig .tc := ⟨.hbm, 833, rfl⟩
abbrev main_v545 : Ref sig .tc := ⟨.hbm, 834, rfl⟩
abbrev main_c_190 : Ref sig .tc := ⟨.hbm, 835, rfl⟩
abbrev main_v546 : Ref sig .tc := ⟨.hbm, 836, rfl⟩
abbrev main_v547 : Ref sig .tc := ⟨.hbm, 837, rfl⟩
abbrev main_v548 : Ref sig .tc := ⟨.hbm, 838, rfl⟩
abbrev main_c_191 : Ref sig .tc := ⟨.hbm, 839, rfl⟩
abbrev main_v549 : Ref sig .tc := ⟨.hbm, 840, rfl⟩
abbrev main_v550 : Ref sig .tc := ⟨.hbm, 841, rfl⟩
abbrev main_c_192 : Ref sig .tc := ⟨.hbm, 842, rfl⟩
abbrev main_v551 : Ref sig .tc := ⟨.hbm, 843, rfl⟩
abbrev main_v552 : Ref sig .tc := ⟨.hbm, 844, rfl⟩
abbrev main_v553 : Ref sig .tc := ⟨.hbm, 845, rfl⟩
abbrev main_v554 : Ref sig .tc := ⟨.hbm, 846, rfl⟩
abbrev main_v555 : Ref sig .tc := ⟨.hbm, 847, rfl⟩
abbrev main_c_193 : Ref sig .tc := ⟨.hbm, 848, rfl⟩
abbrev main_v556 : Ref sig .tc := ⟨.hbm, 849, rfl⟩
abbrev main_v557 : Ref sig .tc := ⟨.hbm, 850, rfl⟩
abbrev main_c_194 : Ref sig .tc := ⟨.hbm, 851, rfl⟩
abbrev main_v558 : Ref sig .tc := ⟨.hbm, 852, rfl⟩
abbrev main_v559 : Ref sig .tc := ⟨.hbm, 853, rfl⟩
abbrev main_v560 : Ref sig .tc := ⟨.hbm, 854, rfl⟩
abbrev main_v561 : Ref sig .tc := ⟨.hbm, 855, rfl⟩
abbrev main_v562 : Ref sig .tc := ⟨.hbm, 856, rfl⟩
abbrev main_c_195 : Ref sig .tc := ⟨.hbm, 857, rfl⟩
abbrev main_v563 : Ref sig .tc := ⟨.hbm, 858, rfl⟩
abbrev main_v564 : Ref sig .tc := ⟨.hbm, 859, rfl⟩
abbrev main_c_196 : Ref sig .tc := ⟨.hbm, 860, rfl⟩
abbrev main_v565 : Ref sig .tc := ⟨.hbm, 861, rfl⟩
abbrev main_v566 : Ref sig .tc := ⟨.hbm, 862, rfl⟩
abbrev main_v567 : Ref sig .tc := ⟨.hbm, 863, rfl⟩
abbrev main_v568 : Ref sig .tc := ⟨.hbm, 864, rfl⟩
abbrev main_v569 : Ref sig .tc := ⟨.hbm, 865, rfl⟩
abbrev main_c_197 : Ref sig .tc := ⟨.hbm, 866, rfl⟩
abbrev main_v570 : Ref sig .tc := ⟨.hbm, 867, rfl⟩
abbrev main_v571 : Ref sig .tc := ⟨.hbm, 868, rfl⟩
abbrev main_c_198 : Ref sig .tc := ⟨.hbm, 869, rfl⟩
abbrev main_v572 : Ref sig .tc := ⟨.hbm, 870, rfl⟩
abbrev main_v573 : Ref sig .tc := ⟨.hbm, 871, rfl⟩
abbrev main_v574 : Ref sig .tc := ⟨.hbm, 872, rfl⟩
abbrev main_v575 : Ref sig .tc := ⟨.hbm, 873, rfl⟩
abbrev main_v576 : Ref sig .tc := ⟨.hbm, 874, rfl⟩
abbrev main_v577 : Ref sig .tc := ⟨.hbm, 875, rfl⟩
abbrev main_v578 : Ref sig .tc := ⟨.hbm, 876, rfl⟩
abbrev main_v579 : Ref sig .tc := ⟨.hbm, 877, rfl⟩
abbrev main_c_199 : Ref sig .tc := ⟨.hbm, 878, rfl⟩
abbrev main_v580 : Ref sig .tc := ⟨.hbm, 879, rfl⟩
abbrev main_v581 : Ref sig .tc := ⟨.hbm, 880, rfl⟩
abbrev main_v582 : Ref sig .tc := ⟨.hbm, 881, rfl⟩
abbrev main_c_200 : Ref sig .tc := ⟨.hbm, 882, rfl⟩
abbrev main_v583 : Ref sig .tc := ⟨.hbm, 883, rfl⟩
abbrev main_v584 : Ref sig .tc := ⟨.hbm, 884, rfl⟩
abbrev main_c_201 : Ref sig .tc := ⟨.hbm, 885, rfl⟩
abbrev main_v585 : Ref sig .tc := ⟨.hbm, 886, rfl⟩
abbrev main_v586 : Ref sig .tc := ⟨.hbm, 887, rfl⟩
abbrev main_v587 : Ref sig .tc := ⟨.hbm, 888, rfl⟩
abbrev main_v588 : Ref sig .tc := ⟨.hbm, 889, rfl⟩
abbrev main_v589 : Ref sig .tc := ⟨.hbm, 890, rfl⟩
abbrev main_c_202 : Ref sig .tc := ⟨.hbm, 891, rfl⟩
abbrev main_v590 : Ref sig .tc := ⟨.hbm, 892, rfl⟩
abbrev main_v591 : Ref sig .tc := ⟨.hbm, 893, rfl⟩
abbrev main_c_203 : Ref sig .tc := ⟨.hbm, 894, rfl⟩
abbrev main_v592 : Ref sig .tc := ⟨.hbm, 895, rfl⟩
abbrev main_v593 : Ref sig .tc := ⟨.hbm, 896, rfl⟩
abbrev main_v594 : Ref sig .tc := ⟨.hbm, 897, rfl⟩
abbrev main_v595 : Ref sig .tc := ⟨.hbm, 898, rfl⟩
abbrev main_v596 : Ref sig .tc := ⟨.hbm, 899, rfl⟩
abbrev main_c_204 : Ref sig .tc := ⟨.hbm, 900, rfl⟩
abbrev main_v597 : Ref sig .tc := ⟨.hbm, 901, rfl⟩
abbrev main_v598 : Ref sig .tc := ⟨.hbm, 902, rfl⟩
abbrev main_c_205 : Ref sig .tc := ⟨.hbm, 903, rfl⟩
abbrev main_v599 : Ref sig .tc := ⟨.hbm, 904, rfl⟩
abbrev main_v600 : Ref sig .tc := ⟨.hbm, 905, rfl⟩
abbrev main_v601 : Ref sig .tc := ⟨.hbm, 906, rfl⟩
abbrev main_v602 : Ref sig .tc := ⟨.hbm, 907, rfl⟩
abbrev main_v603 : Ref sig .tc := ⟨.hbm, 908, rfl⟩
abbrev main_c_206 : Ref sig .tc := ⟨.hbm, 909, rfl⟩
abbrev main_v604 : Ref sig .tc := ⟨.hbm, 910, rfl⟩
abbrev main_v605 : Ref sig .tc := ⟨.hbm, 911, rfl⟩
abbrev main_c_207 : Ref sig .tc := ⟨.hbm, 912, rfl⟩
abbrev main_v606 : Ref sig .tc := ⟨.hbm, 913, rfl⟩
abbrev main_v607 : Ref sig .tc := ⟨.hbm, 914, rfl⟩
abbrev main_v608 : Ref sig .tc := ⟨.hbm, 915, rfl⟩
abbrev main_v609 : Ref sig .tc := ⟨.hbm, 916, rfl⟩
abbrev main_v610 : Ref sig .tc := ⟨.hbm, 917, rfl⟩
abbrev main_v611 : Ref sig .tc := ⟨.hbm, 918, rfl⟩
abbrev main_v612 : Ref sig .tc := ⟨.hbm, 919, rfl⟩
abbrev main_v613 : Ref sig .tc := ⟨.hbm, 920, rfl⟩
abbrev main_c_208 : Ref sig .tc := ⟨.hbm, 921, rfl⟩
abbrev main_v614 : Ref sig .tc := ⟨.hbm, 922, rfl⟩
abbrev main_v615 : Ref sig .tc := ⟨.hbm, 923, rfl⟩
abbrev main_v616 : Ref sig .tc := ⟨.hbm, 924, rfl⟩
abbrev main_c_209 : Ref sig .tc := ⟨.hbm, 925, rfl⟩
abbrev main_v617 : Ref sig .tc := ⟨.hbm, 926, rfl⟩
abbrev main_v618 : Ref sig .tc := ⟨.hbm, 927, rfl⟩
abbrev main_c_210 : Ref sig .tc := ⟨.hbm, 928, rfl⟩
abbrev main_v619 : Ref sig .tc := ⟨.hbm, 929, rfl⟩
abbrev main_v620 : Ref sig .tc := ⟨.hbm, 930, rfl⟩
abbrev main_v621 : Ref sig .tc := ⟨.hbm, 931, rfl⟩
abbrev main_v622 : Ref sig .tc := ⟨.hbm, 932, rfl⟩
abbrev main_v623 : Ref sig .tc := ⟨.hbm, 933, rfl⟩
abbrev main_c_211 : Ref sig .tc := ⟨.hbm, 934, rfl⟩
abbrev main_v624 : Ref sig .tc := ⟨.hbm, 935, rfl⟩
abbrev main_v625 : Ref sig .tc := ⟨.hbm, 936, rfl⟩
abbrev main_c_212 : Ref sig .tc := ⟨.hbm, 937, rfl⟩
abbrev main_v626 : Ref sig .tc := ⟨.hbm, 938, rfl⟩
abbrev main_v627 : Ref sig .tc := ⟨.hbm, 939, rfl⟩
abbrev main_v628 : Ref sig .tc := ⟨.hbm, 940, rfl⟩
abbrev main_v629 : Ref sig .tc := ⟨.hbm, 941, rfl⟩
abbrev main_v630 : Ref sig .tc := ⟨.hbm, 942, rfl⟩
abbrev main_c_213 : Ref sig .tc := ⟨.hbm, 943, rfl⟩
abbrev main_v631 : Ref sig .tc := ⟨.hbm, 944, rfl⟩
abbrev main_v632 : Ref sig .tc := ⟨.hbm, 945, rfl⟩
abbrev main_c_214 : Ref sig .tc := ⟨.hbm, 946, rfl⟩
abbrev main_v633 : Ref sig .tc := ⟨.hbm, 947, rfl⟩
abbrev main_v634 : Ref sig .tc := ⟨.hbm, 948, rfl⟩
abbrev main_v635 : Ref sig .tc := ⟨.hbm, 949, rfl⟩
abbrev main_v636 : Ref sig .tc := ⟨.hbm, 950, rfl⟩
abbrev main_v637 : Ref sig .tc := ⟨.hbm, 951, rfl⟩
abbrev main_c_215 : Ref sig .tc := ⟨.hbm, 952, rfl⟩
abbrev main_v638 : Ref sig .tc := ⟨.hbm, 953, rfl⟩
abbrev main_v639 : Ref sig .tc := ⟨.hbm, 954, rfl⟩
abbrev main_c_216 : Ref sig .tc := ⟨.hbm, 955, rfl⟩
abbrev main_v640 : Ref sig .tc := ⟨.hbm, 956, rfl⟩
abbrev main_v641 : Ref sig .tc := ⟨.hbm, 957, rfl⟩
abbrev main_v642 : Ref sig .tc := ⟨.hbm, 958, rfl⟩
abbrev main_v643 : Ref sig .tc := ⟨.hbm, 959, rfl⟩
abbrev main_v644 : Ref sig .tc := ⟨.hbm, 960, rfl⟩
abbrev main_v645 : Ref sig .tc := ⟨.hbm, 961, rfl⟩
abbrev main_v646 : Ref sig .tc := ⟨.hbm, 962, rfl⟩
abbrev main_v647 : Ref sig .tc := ⟨.hbm, 963, rfl⟩
abbrev main_c_217 : Ref sig .tc := ⟨.hbm, 964, rfl⟩
abbrev main_v648 : Ref sig .tc := ⟨.hbm, 965, rfl⟩
abbrev main_v649 : Ref sig .tc := ⟨.hbm, 966, rfl⟩
abbrev main_v650 : Ref sig .tc := ⟨.hbm, 967, rfl⟩
abbrev main_c_218 : Ref sig .tc := ⟨.hbm, 968, rfl⟩
abbrev main_v651 : Ref sig .tc := ⟨.hbm, 969, rfl⟩
abbrev main_v652 : Ref sig .tc := ⟨.hbm, 970, rfl⟩
abbrev main_c_219 : Ref sig .tc := ⟨.hbm, 971, rfl⟩
abbrev main_v653 : Ref sig .tc := ⟨.hbm, 972, rfl⟩
abbrev main_v654 : Ref sig .tc := ⟨.hbm, 973, rfl⟩
abbrev main_v655 : Ref sig .tc := ⟨.hbm, 974, rfl⟩
abbrev main_cst_220 : Ref sig .tc := ⟨.hbm, 975, rfl⟩
abbrev main_v656 : Ref sig .tc := ⟨.hbm, 976, rfl⟩
abbrev main_v657 : Ref sig .tc := ⟨.hbm, 977, rfl⟩
abbrev main_cst_221 : Ref sig .tc := ⟨.hbm, 978, rfl⟩
abbrev main_v658 : Ref sig .tc := ⟨.hbm, 979, rfl⟩
abbrev main_v659 : Ref sig .tc := ⟨.hbm, 980, rfl⟩
abbrev main_cst_222 : Ref sig .tc := ⟨.hbm, 981, rfl⟩
abbrev main_v660 : Ref sig .tc := ⟨.hbm, 982, rfl⟩
abbrev main_v661 : Ref sig .tc := ⟨.hbm, 983, rfl⟩
abbrev main_cst_223 : Ref sig .tc := ⟨.hbm, 984, rfl⟩
abbrev main_v662 : Ref sig .tc := ⟨.hbm, 985, rfl⟩
abbrev main_v663 : Ref sig .tc := ⟨.hbm, 986, rfl⟩
abbrev main_v664 : Ref sig .tc := ⟨.hbm, 987, rfl⟩
abbrev main_v665 : Ref sig .tc := ⟨.hbm, 988, rfl⟩
abbrev main_v666 : Ref sig .tc := ⟨.hbm, 989, rfl⟩
abbrev main_v667 : Ref sig .tc := ⟨.hbm, 990, rfl⟩
abbrev main_cst_224 : Ref sig .tc := ⟨.hbm, 991, rfl⟩
abbrev main_v668 : Ref sig .tc := ⟨.hbm, 992, rfl⟩
abbrev main_v669 : Ref sig .tc := ⟨.hbm, 993, rfl⟩
abbrev main_cst_225 : Ref sig .tc := ⟨.hbm, 994, rfl⟩
abbrev main_v670 : Ref sig .tc := ⟨.hbm, 995, rfl⟩
abbrev main_v671 : Ref sig .tc := ⟨.hbm, 996, rfl⟩
abbrev main_v672 : Ref sig .tc := ⟨.hbm, 997, rfl⟩
abbrev main_cst_226 : Ref sig .tc := ⟨.hbm, 998, rfl⟩
abbrev main_v673 : Ref sig .tc := ⟨.hbm, 999, rfl⟩
abbrev main_v674 : Ref sig .tc := ⟨.hbm, 1000, rfl⟩
abbrev main_v675 : Ref sig .tc := ⟨.hbm, 1001, rfl⟩
abbrev main_cst_227 : Ref sig .tc := ⟨.hbm, 1002, rfl⟩
abbrev main_cst_228 : Ref sig .tc := ⟨.hbm, 1003, rfl⟩
abbrev main_call7_v0 : Ref sig .tc := ⟨.hbm, 1004, rfl⟩
abbrev main_call7_v1 : Ref sig .tc := ⟨.hbm, 1005, rfl⟩
abbrev main_v676 : Ref sig .tc := ⟨.hbm, 1006, rfl⟩
abbrev main_cst_229 : Ref sig .tc := ⟨.hbm, 1007, rfl⟩
abbrev main_cst_230 : Ref sig .tc := ⟨.hbm, 1008, rfl⟩
abbrev main_call8_v0 : Ref sig .tc := ⟨.hbm, 1009, rfl⟩
abbrev main_call8_v1 : Ref sig .tc := ⟨.hbm, 1010, rfl⟩
abbrev main_v677 : Ref sig .tc := ⟨.hbm, 1011, rfl⟩
abbrev main_v678 : Ref sig .tc := ⟨.hbm, 1012, rfl⟩
abbrev main_v679 : Ref sig .tc := ⟨.hbm, 1013, rfl⟩
abbrev main_cst_231 : Ref sig .tc := ⟨.hbm, 1014, rfl⟩
abbrev main_cst_232 : Ref sig .tc := ⟨.hbm, 1015, rfl⟩
abbrev main_call9_v0 : Ref sig .tc := ⟨.hbm, 1016, rfl⟩
abbrev main_call9_v1 : Ref sig .tc := ⟨.hbm, 1017, rfl⟩
abbrev main_v680 : Ref sig .tc := ⟨.hbm, 1018, rfl⟩
abbrev main_v681 : Ref sig .tc := ⟨.hbm, 1019, rfl⟩
abbrev main_v682 : Ref sig .tc := ⟨.hbm, 1020, rfl⟩
abbrev main_cst_233 : Ref sig .tc := ⟨.hbm, 1021, rfl⟩
abbrev main_cst_234 : Ref sig .tc := ⟨.hbm, 1022, rfl⟩
abbrev main_call10_v0 : Ref sig .tc := ⟨.hbm, 1023, rfl⟩
abbrev main_call10_v1 : Ref sig .tc := ⟨.hbm, 1024, rfl⟩
abbrev main_v683 : Ref sig .tc := ⟨.hbm, 1025, rfl⟩
abbrev main_v684 : Ref sig .tc := ⟨.hbm, 1026, rfl⟩
abbrev main_v685 : Ref sig .tc := ⟨.hbm, 1027, rfl⟩
abbrev main_cst_235 : Ref sig .tc := ⟨.hbm, 1028, rfl⟩
abbrev main_cst_236 : Ref sig .tc := ⟨.hbm, 1029, rfl⟩
abbrev main_call11_v0 : Ref sig .tc := ⟨.hbm, 1030, rfl⟩
abbrev main_call11_v1 : Ref sig .tc := ⟨.hbm, 1031, rfl⟩
abbrev main_v686 : Ref sig .tc := ⟨.hbm, 1032, rfl⟩
abbrev main_v687 : Ref sig .tc := ⟨.hbm, 1033, rfl⟩
abbrev main_v688 : Ref sig .tc := ⟨.hbm, 1034, rfl⟩
abbrev main_cst_237 : Ref sig .tc := ⟨.hbm, 1035, rfl⟩
abbrev main_cst_238 : Ref sig .tc := ⟨.hbm, 1036, rfl⟩
abbrev main_call12_v0 : Ref sig .tc := ⟨.hbm, 1037, rfl⟩
abbrev main_call12_v1 : Ref sig .tc := ⟨.hbm, 1038, rfl⟩
abbrev main_v689 : Ref sig .tc := ⟨.hbm, 1039, rfl⟩
abbrev main_v690 : Ref sig .tc := ⟨.hbm, 1040, rfl⟩
abbrev main_v691 : Ref sig .tc := ⟨.hbm, 1041, rfl⟩
abbrev main_cst_239 : Ref sig .tc := ⟨.hbm, 1042, rfl⟩
abbrev main_cst_240 : Ref sig .tc := ⟨.hbm, 1043, rfl⟩
abbrev main_call13_v0 : Ref sig .tc := ⟨.hbm, 1044, rfl⟩
abbrev main_call13_v1 : Ref sig .tc := ⟨.hbm, 1045, rfl⟩
abbrev main_v692 : Ref sig .tc := ⟨.hbm, 1046, rfl⟩
abbrev main_v693 : Ref sig .tc := ⟨.hbm, 1047, rfl⟩
abbrev main_v694 : Ref sig .tc := ⟨.hbm, 1048, rfl⟩
abbrev main_cst_241 : Ref sig .tc := ⟨.hbm, 1049, rfl⟩
abbrev main_cst_242 : Ref sig .tc := ⟨.hbm, 1050, rfl⟩
abbrev main_call14_v0 : Ref sig .tc := ⟨.hbm, 1051, rfl⟩
abbrev main_call14_v1 : Ref sig .tc := ⟨.hbm, 1052, rfl⟩
abbrev main_v695 : Ref sig .tc := ⟨.hbm, 1053, rfl⟩
abbrev main_v696 : Ref sig .tc := ⟨.hbm, 1054, rfl⟩
abbrev main_v697 : Ref sig .tc := ⟨.hbm, 1055, rfl⟩
abbrev main_cst_243 : Ref sig .tc := ⟨.hbm, 1056, rfl⟩
abbrev main_cst_244 : Ref sig .tc := ⟨.hbm, 1057, rfl⟩
abbrev main_call15_v0 : Ref sig .tc := ⟨.hbm, 1058, rfl⟩
abbrev main_call15_v1 : Ref sig .tc := ⟨.hbm, 1059, rfl⟩
abbrev main_v698 : Ref sig .tc := ⟨.hbm, 1060, rfl⟩
abbrev main_v699 : Ref sig .tc := ⟨.hbm, 1061, rfl⟩
abbrev main_v700 : Ref sig .tc := ⟨.hbm, 1062, rfl⟩
abbrev main_v701 : Ref sig .tc := ⟨.hbm, 1063, rfl⟩
abbrev main_cst_245 : Ref sig .tc := ⟨.hbm, 1064, rfl⟩
abbrev main_v702 : Ref sig .tc := ⟨.hbm, 1065, rfl⟩
abbrev main_v703 : Ref sig .tc := ⟨.hbm, 1066, rfl⟩
abbrev main_v704 : Ref sig .tc := ⟨.hbm, 1067, rfl⟩
abbrev main_v705 : Ref sig .tc := ⟨.hbm, 1068, rfl⟩
abbrev main_v706 : Ref sig .tc := ⟨.hbm, 1069, rfl⟩

abbrev nD : Nat := 1
abbrev τ : Topo := Topo.v7x

variable {F : FTy → Type} [FloatOps F]
-- ==== Proof.Spec.lean ====
/- The scalar functions in which both programs are read: threefry-2x32 with its rounds grouped as the sources group
   them, the uniform number made of a hash, the inverse error function, and the draw of a category. -/
module

public import Idealize.ShloMosaic.Lib.Pointwise

@[expose] public section

noncomputable section

namespace Cert.Spec

open Idealize.ShloMosaic

/-- A 32-bit word. -/
abbrev W : Type := BitVec 32

/-- The step that replaces the second word of the state: left shift, right shift, second word, first word. -/
abbrev Step : Type := W → W → W → W → W

/-- The kernel's step inside a region: rotate, then exclusive-or with the first word. -/
def gV : Step := fun l r y x => IntOp.xori (IntOp.ori (IntOp.shli .vector y l) (IntOp.shrui .vector y r)) x
/-- The kernel's step on its host line. -/
def gK : Step := fun l r y x => IntOp.xori (IntOp.ori (IntOp.shli .host y l) (IntOp.shrui .host y r)) x
/-- The reference's step. -/
def gH : Step := fun l r y x => IntOp.xori x (IntOp.ori (IntOp.shli .host y l) (IntOp.shrui .host y r))

/-- The addition at the head of a round. -/
def A (p : W × W) : W × W := (IntOp.addi p.1 p.2, p.2)
/-- The rotation at the tail of a round. -/
def R (g : Step) (l r : W) (p : W × W) : W × W := (p.1, g l r p.2 p.1)
/-- The key injection after a group of rounds. -/
def J (a b c : W) (p : W × W) : W × W := (IntOp.addi p.1 a, IntOp.addi (IntOp.addi p.2 b) c)

/-- The rounds of the odd groups. -/
def G1 (g : Step) (p : W × W) : W × W := R g 6#32 26#32 (A (R g 26#32 6#32 (A (R g 15#32 17#32 (A (R g 13#32 19#32 (A p)))))))
/-- The rounds of the even groups. -/
def G2 (g : Step) (p : W × W) : W × W := R g 24#32 8#32 (A (R g 16#32 16#32 (A (R g 29#32 3#32 (A (R g 17#32 15#32 (A p)))))))

/-- The third word of the key schedule. -/
def ks2 (k0 k1 : W) : W := IntOp.xori (IntOp.xori k0 k1) 466688986#32

/-- Threefry-2x32 with 20 rounds of the block `(x0, x1)`. -/
def tf (g : Step) (k0 k1 x0 x1 : W) : W × W :=
  J (ks2 k0 k1) k0 5#32 (G1 g (J k1 (ks2 k0 k1) 4#32 (G2 g (J k0 k1 3#32 (G1 g (J (ks2 k0 k1) k0 2#32 (G2 g (J k1 (ks2 k0 k1) 1#32
    (G1 g (IntOp.addi x0 k0, IntOp.addi x1 k1))))))))))

/-- The two words of a hash, mixed. -/
def mix (p : W × W) : W := IntOp.xori p.1 p.2

theorem tf_congr {g g' : Step} (h : ∀ l r y x : W, l.toNat < 32 → r.toNat < 32 → g l r y x = g' l r y x) (k0 k1 x0 x1 : W) :
    tf g k0 k1 x0 x1 = tf g' k0 k1 x0 x1 := by
  have hR : ∀ (l r : W) (p : W × W), l.toNat < 32 → r.toNat < 32 → R g l r p = R g' l r p := fun l r p hl hr => by
    unfold R; rw [h l r p.2 p.1 hl hr]
  have h1 : ∀ p, G1 g p = G1 g' p := fun p => by
    unfold G1
    rw [hR 6#32 26#32 _ (by decide) (by decide), hR 26#32 6#32 _ (by decide) (by decide), hR 15#32 17#32 _ (by decide) (by decide), hR 13#32 19#32 _ (by decide) (by decide)]
  have h2 : ∀ p, G2 g p = G2 g' p := fun p => by
    unfold G2
    rw [hR 24#32 8#32 _ (by decide) (by decide), hR 16#32 16#32 _ (by decide) (by decide), hR 29#32 3#32 _ (by decide) (by decide), hR 17#32 15#32 _ (by decide) (by decide)]
  unfold tf
  simp only [h1, h2]

theorem tf_gV (k0 k1 x0 x1 : W) : tf gV k0 k1 x0 x1 = tf gH k0 k1 x0 x1 :=
  tf_congr (fun l r y x hl hr => by
    simp only [gV, gH, IntOp.shli, IntOp.shrui, hl, hr, if_true, IntOp.xori, BitVec.xor_comm]) k0 k1 x0 x1

theorem tf_gK (k0 k1 x0 x1 : W) : tf gK k0 k1 x0 x1 = tf gH k0 k1 x0 x1 :=
  tf_congr (fun l r y x hl hr => by
    simp only [gK, gH, IntOp.shli, IntOp.shrui, hl, hr, if_true, IntOp.xori, BitVec.xor_comm]) k0 k1 x0 x1

/-- The extended real that a float32 pattern denotes. -/
abbrev C (b : W) : EReal := Ideal.ofBits .f32 b

/-- The uniform number of a hash: 23 bits of mantissa over the exponent of one, less one. -/
def unit (u : ArithUnit) (b : W) : EReal := C (IntOp.ori (IntOp.shrui u b 9#32) 1065353216#32) - C 0x3F800000#32

theorem unit_eq (u : ArithUnit) (b : W) : unit u b = unit .host b := by
  unfold unit IntOp.shrui
  rw [if_pos (by decide), if_pos (by decide)]

/-- The uniform number of a hash, kept off zero. -/
def pos (u : ArithUnit) (b : W) : EReal := max (unit u b) (C 0x00800000#32)
/-- The uniform number of a hash on the symmetric open interval. -/
def sym (u : ArithUnit) (b : W) : EReal := max (unit u b * C 0x40000000#32 + C 0xBF7FFFFF#32) (C 0xBF7FFFFF#32)

/-- Gumbel noise as the kernel negates. -/
def gumK (x : EReal) : EReal := C 0#32 - Ideal.log (C 0#32 - Ideal.log x)
/-- Gumbel noise as the reference negates. -/
def gum (x : EReal) : EReal := -Ideal.log (-Ideal.log x)

theorem zero_sub_C (x : EReal) : C 0#32 - x = -x := by
  rw [show C 0#32 = 0 from Ideal.ofBits_zero_f32, zero_sub]

theorem gumK_eq (x : EReal) : gumK x = gum x := by
  unfold gumK gum; rw [zero_sub_C, zero_sub_C]

/-- A polynomial of degree eight in Horner's form, the leading coefficient first. -/
def horner (c0 c1 c2 c3 c4 c5 c6 c7 c8 t : EReal) : EReal :=
  c8 + (c7 + (c6 + (c5 + (c4 + (c3 + (c2 + (c1 + c0 * t) * t) * t) * t) * t) * t) * t) * t

/-- The inverse error function's central branch. -/
def central (t : EReal) : EReal :=
  horner (C 0x32F16588#32) (C 0x34B84B36#32) (C 0xB66C7357#32) (C 0xB6935AC1#32) (C 0x396532DB#32) (C 0xBAA45408#32)
    (C 0xBB88E4EF#32) (C 0x3E7C8F63#32) (C 0x3FC02E2F#32) t
/-- The inverse error function's tail branch. -/
def tail (t : EReal) : EReal :=
  horner (C 0xB951F09B#32) (C 0x38D3B56B#32) (C 0x3AB0DC72#32) (C 0xBB70BDE7#32) (C 0x3BBC127B#32) (C 0xBBF9C5D7#32)
    (C 0x3C1AA57E#32) (C 0x3F8036DB#32) (C 0x40354F7E#32) t

/-- The kernel's argument of the two branches. -/
def wK (x : EReal) : EReal := C 0#32 - Ideal.log1p ((C 0#32 - x) * x)
/-- The normal deviate the kernel makes of a uniform number. -/
def epsK (x : EReal) : EReal :=
  C 0x3FB504F3#32 * ((if Ideal.cmp .olt (wK x) (C 0x40A00000#32) = 1 then central (wK x - C 0x40200000#32)
    else tail (Ideal.sqrt (max (wK x) (C 0x0DA24260#32)) - C 0x40400000#32)) * x)

end Cert.Spec
-- ==== Proof.Bits.lean ====
module

public import proofs.«01_k».proof.Proof.Gen.KernelIdeal.Skeleton
public import proofs.«01_k».proof.Proof.Spec

@[expose] public section

set_option maxRecDepth 16384

noncomputable section

namespace Cert.KernelIdeal.Val

open Idealize.ShloMosaic Cert.Spec Cert.KernelIdeal.Gen

variable {F : FTy → Type} [FloatOps F]

/-! The hash at the even positions, cut where the printed body is cut. -/

theorem cut1 (i : grid1.Coords) (a b : W) (j : S125x128.Idx) :
    (k1_pay10 (F := F) i a b j, k1_pay9 (F := F) i a b j)
      = A (R gV 15#32 17#32 (A (R gV 13#32 19#32 (A (IntOp.addi 0#32 a, IntOp.addi (k1_pay4 i j) b))))) := rfl

theorem cut2 (b k : W) (y x : IVec S125x128 32) (j : S125x128.Idx) :
    (k1_pay20 (F := F) b k y x j, k1_pay21 (F := F) b k y x j)
      = G2 gV (J b k 1#32 (R gV 6#32 26#32 (A (R gV 26#32 6#32 (x j, y j))))) := rfl

theorem cut3 (a b k : W) (x y : IVec S125x128 32) (j : S125x128.Idx) :
    (k1_pay33 (F := F) a b k x y j, k1_pay32 (F := F) a b k x y j)
      = A (R gV 17#32 15#32 (A (J a b 3#32 (G1 gV (J k a 2#32 (x j, y j)))))) := rfl

theorem cut4 (b k : W) (y x : IVec S125x128 32) (j : S125x128.Idx) :
    (k1_pay43 (F := F) b k y x j, k1_pay44 (F := F) b k y x j)
      = R gV 26#32 6#32 (A (R gV 15#32 17#32 (A (R gV 13#32 19#32 (A (J b k 4#32
          (R gV 24#32 8#32 (A (R gV 16#32 16#32 (A (R gV 29#32 3#32 (x j, y j))))))))))))  := rfl

theorem cut5 (a k : W) (x y : IVec S125x128 32) (j : S125x128.Idx) :
    k1_pay45 (F := Ideal) a k x y j = pos .vector (mix (J k a 5#32 (R gV 6#32 26#32 (A (x j, y j))))) := rfl

theorem gumbel_a (x : FVec Ideal S125x128 .f32) (j : S125x128.Idx) : k1_pay86 (F := Ideal) x j = gumK (x j) := rfl

/-! The hash at the odd positions. -/

theorem cut6 (a b : W) (n : IVec S125x128 32) (j : S125x128.Idx) :
    (k1_pay49 (F := F) a b n j, k1_pay50 (F := F) a b n j)
      = R gV 15#32 17#32 (A (R gV 13#32 19#32 (A (IntOp.addi 0#32 a, IntOp.addi (IntOp.addi (n j) 1#32) b)))) := rfl

theorem cut7 (b k : W) (x y : IVec S125x128 32) (j : S125x128.Idx) :
    (k1_pay61 (F := F) b k x y j, IntOp.xori (k1_pay62 (F := F) b k x y j) (k1_pay61 (F := F) b k x y j))
      = G2 gV (J b k 1#32 (R gV 6#32 26#32 (A (R gV 26#32 6#32 (A (x j, y j)))))) := rfl

theorem cut8 (a b k : W) (x o : IVec S125x128 32) (j : S125x128.Idx) :
    (k1_pay72 (F := F) a b k x o j, k1_pay73 (F := F) a b k x o j)
      = R gV 17#32 15#32 (A (J a b 3#32 (G1 gV (J k a 2#32 (x j, IntOp.xori (o j) (x j)))))) := rfl

theorem cut9 (b k : W) (x y : IVec S125x128 32) (j : S125x128.Idx) :
    (k1_pay84 (F := F) b k x y j, IntOp.xori (k1_pay85 (F := F) b k x y j) (k1_pay84 (F := F) b k x y j))
      = R gV 26#32 6#32 (A (R gV 15#32 17#32 (A (R gV 13#32 19#32 (A (J b k 4#32
          (R gV 24#32 8#32 (A (R gV 16#32 16#32 (A (R gV 29#32 3#32 (A (x j, y j)))))))))))))  := rfl

theorem cut10 (a k : W) (x o : IVec S125x128 32) (j : S125x128.Idx) :
    k1_pay87 (F := Ideal) a k x o j
      = gumK (pos .vector (mix (J k a 5#32 (R gV 6#32 26#32 (A (x j, IntOp.xori (o j) (x j))))))) := rfl

/-! The hash of the normal deviates. -/

theorem cut11 (n : IVec S125x128 32) (a b : W) (j : S125x128.Idx) :
    (k1_pay93 (F := F) n a b j, k1_pay94 (F := F) n a b j)
      = R gV 15#32 17#32 (A (R gV 13#32 19#32 (A (IntOp.addi 0#32 a, IntOp.addi (n j) b)))) := rfl

theorem cut12 (b k : W) (x y : IVec S125x128 32) (j : S125x128.Idx) :
    (k1_pay105 (F := F) b k x y j, IntOp.xori (k1_pay106 (F := F) b k x y j) (k1_pay105 (F := F) b k x y j))
      = G2 gV (J b k 1#32 (R gV 6#32 26#32 (A (R gV 26#32 6#32 (A (x j, y j)))))) := rfl

theorem cut13 (a b k : W) (x o : IVec S125x128 32) (j : S125x128.Idx) :
    (k1_pay116 (F := F) a b k x o j, k1_pay117 (F := F) a b k x o j)
      = R gV 17#32 15#32 (A (J a b 3#32 (G1 gV (J k a 2#32 (x j, IntOp.xori (o j) (x j)))))) := rfl

theorem cut14 (b k : W) (x y : IVec S125x128 32) (j : S125x128.Idx) :
    (k1_pay128 (F := F) b k x y j, IntOp.xori (k1_pay129 (F := F) b k x y j) (k1_pay128 (F := F) b k x y j))
      = R gV 26#32 6#32 (A (R gV 15#32 17#32 (A (R gV 13#32 19#32 (A (J b k 4#32
          (R gV 24#32 8#32 (A (R gV 16#32 16#32 (A (R gV 29#32 3#32 (A (x j, y j)))))))))))))  := rfl

theorem cut15 (a k : W) (x o : IVec S125x128 32) (j : S125x128.Idx) :
    k1_pay130 (F := Ideal) a k x o j
      = sym .vector (mix (J k a 5#32 (R gV 6#32 26#32 (A (x j, IntOp.xori (o j) (x j)))))) := rfl

theorem wK_at (a k : W) (x o : IVec S125x128 32) (j : S125x128.Idx) :
    k1_pay131 (F := Ideal) a k x o j = wK (k1_pay130 (F := Ideal) a k x o j) := rfl

theorem central_at (a k : W) (x o : IVec S125x128 32) (j : S125x128.Idx) :
    k1_pay134 (F := Ideal) (k1_pay132 (F := Ideal) a k x o) (k1_pay133 (F := Ideal) a k x o) (C 0xB6935AC1#32) j
      = central (k1_pay131 (F := Ideal) a k x o j - C 0x40200000#32) := rfl

theorem eps_at (v w p : FVec Ideal S125x128 .f32) (j : S125x128.Idx) :
    k1_pay136 (F := Ideal) v w p (k1_pay135 w) j
      = C 0x3FB504F3#32 * ((if Ideal.cmp .olt (w j) (C 0x40A00000#32) = 1 then p j
        else tail (Ideal.sqrt (max (w j) (C 0x0DA24260#32)) - C 0x40400000#32)) * v j) := rfl

end Cert.KernelIdeal.Val
-- ==== Proof.Out.lean ====
/- What the body of the second region stores, as functions of its blocks: the hashes read whole, then the lanes. -/
module

public import proofs.«01_k».proof.Proof.Bits

@[expose] public section

set_option maxRecDepth 16384

noncomputable section

namespace Cert.KernelIdeal.Val

open Idealize.ShloMosaic Cert.Spec Cert.KernelIdeal.Gen

/-- A plane of extended reals over the block. -/
abbrev Plane : Type := FVec Ideal S125x128 .f32

section hashes
variable (i : grid1.Coords) (a b : W)

/-- The even hash after two groups: the second word. -/
def a2y : IVec S125x128 32 := k1_pay20 (F := Ideal) b (ks2 a b) (k1_pay9 (F := Ideal) i a b) (k1_pay10 (F := Ideal) i a b)
def a2x : IVec S125x128 32 := k1_pay21 (F := Ideal) b (ks2 a b) (k1_pay9 (F := Ideal) i a b) (k1_pay10 (F := Ideal) i a b)
def a4y : IVec S125x128 32 := k1_pay32 (F := Ideal) a b (ks2 a b) (a2y i a b) (a2x i a b)
def a4x : IVec S125x128 32 := k1_pay33 (F := Ideal) a b (ks2 a b) (a2y i a b) (a2x i a b)
/-- Gumbel noise at the even positions. -/
def gA : Plane :=
  k1_pay86 (F := Ideal) (k1_pay45 (F := Ideal) a (ks2 a b) (k1_pay43 (F := Ideal) b (ks2 a b) (a4y i a b) (a4x i a b))
    (k1_pay44 (F := Ideal) b (ks2 a b) (a4y i a b) (a4x i a b)))

theorem gA_at (j : S125x128.Idx) : gA i a b j = gumK (pos .vector (mix (tf gV a b 0#32 (k1_pay4 i j)))) := by
  unfold gA
  rw [gumbel_a, cut5, cut4]
  unfold a4x a4y
  rw [cut3]
  unfold a2x a2y
  rw [cut2, cut1]
  rfl

def b2x : IVec S125x128 32 := k1_pay61 (F := Ideal) b (ks2 a b) (k1_pay49 (F := Ideal) a b (k1_pay4 i)) (k1_pay50 (F := Ideal) a b (k1_pay4 i))
def b2o : IVec S125x128 32 := k1_pay62 (F := Ideal) b (ks2 a b) (k1_pay49 (F := Ideal) a b (k1_pay4 i)) (k1_pay50 (F := Ideal) a b (k1_pay4 i))
def b4x : IVec S125x128 32 := k1_pay72 (F := Ideal) a b (ks2 a b) (b2x i a b) (b2o i a b)
def b4y : IVec S125x128 32 := k1_pay73 (F := Ideal) a b (ks2 a b) (b2x i a b) (b2o i a b)
/-- Gumbel noise at the odd positions. -/
def gB : Plane :=
  k1_pay87 (F := Ideal) a (ks2 a b) (k1_pay84 (F := Ideal) b (ks2 a b) (b4x i a b) (b4y i a b))
    (k1_pay85 (F := Ideal) b (ks2 a b) (b4x i a b) (b4y i a b))

theorem gB_at (j : S125x128.Idx) :
    gB i a b j = gumK (pos .vector (mix (tf gV a b 0#32 (IntOp.addi (k1_pay4 i j) 1#32)))) := by
  unfold gB
  rw [cut10, cut9]
  unfold b4x b4y
  rw [cut8]
  unfold b2x b2o
  rw [cut7, cut6]
  rfl

def e2x : IVec S125x128 32 := k1_pay105 (F := Ideal) b (ks2 a b) (k1_pay93 (F := Ideal) (k1_pay2 i) a b) (k1_pay94 (F := Ideal) (k1_pay2 i) a b)
def e2o : IVec S125x128 32 := k1_pay106 (F := Ideal) b (ks2 a b) (k1_pay93 (F := Ideal) (k1_pay2 i) a b) (k1_pay94 (F := Ideal) (k1_pay2 i) a b)
def e4x : IVec S125x128 32 := k1_pay116 (F := Ideal) a b (ks2 a b) (e2x i a b) (e2o i a b)
def e4y : IVec S125x128 32 := k1_pay117 (F := Ideal) a b (ks2 a b) (e2x i a b) (e2o i a b)
def e5x : IVec S125x128 32 := k1_pay128 (F := Ideal) b (ks2 a b) (e4x i a b) (e4y i a b)
def e5o : IVec S125x128 32 := k1_pay129 (F := Ideal) b (ks2 a b) (e4x i a b) (e4y i a b)
/-- The uniform numbers of the normal deviates. -/
def ue : Plane := k1_pay130 (F := Ideal) a (ks2 a b) (e5x i a b) (e5o i a b)

theorem ue_at (j : S125x128.Idx) : ue i a b j = sym .vector (mix (tf gV a b 0#32 (k1_pay2 i j))) := by
  unfold ue
  rw [cut15]
  unfold e5x e5o
  rw [cut14]
  unfold e4x e4y
  rw [cut13]
  unfold e2x e2o
  rw [cut12, cut11]
  rfl

/-- The logarithm under the inverse error function. -/
def we : Plane := k1_pay131 (F := Ideal) a (ks2 a b) (e5x i a b) (e5o i a b)
/-- The central branch. -/
def ce : Plane := k1_pay134 (F := Ideal) (k1_pay132 (F := Ideal) a (ks2 a b) (e5x i a b) (e5o i a b))
  (k1_pay133 (F := Ideal) a (ks2 a b) (e5x i a b) (e5o i a b)) (C 0xB6935AC1#32)
/-- The normal deviates. -/
def ev : Plane := k1_pay136 (F := Ideal) (ue i a b) (we i a b) (ce i a b) (k1_pay135 (we i a b))

theorem ev_at (j : S125x128.Idx) : ev i a b j = epsK (ue i a b j) := by
  unfold ev
  rw [eps_at]
  unfold ce we
  rw [central_at, wK_at]
  rfl

end hashes

end Cert.KernelIdeal.Val
-- ==== Proof.Lanes.lean ====
/- The lanes of a block: two lanes per particle, the even one for the first coordinate and the odd one for the second.
   Every rotation along the lanes is read at the two lanes of a particle. -/
module

public import proofs.«01_k».proof.Proof.Out

@[expose] public section

set_option maxRecDepth 16384

noncomputable section

namespace Cert.KernelIdeal.Val

open Idealize.ShloMosaic Cert.Spec Cert.KernelIdeal.Gen

/-- The first lane of particle `p` of a row. -/
abbrev lo (p : Fin 64) : Fin 128 := ⟨2 * p.val, by omega⟩
/-- The second lane of particle `p` of a row. -/
abbrev hi (p : Fin 64) : Fin 128 := ⟨2 * p.val + 1, by omega⟩

/-- The printed test of an even lane. -/
theorem mask (n : Nat) (hn : n < 128) :
    IntOp.cmpi .eq (IntOp.andi (BitVec.ofNat 32 n) 1#32) 0#32 = if n % 2 = 0 then 1#1 else 0#1 := by
  have h : ∀ l : Fin 128, IntOp.cmpi .eq (IntOp.andi (BitVec.ofNat 32 l.val) 1#32) 0#32 = if l.val % 2 = 0 then 1#1 else 0#1 := by
    decide +kernel
  exact h ⟨n, hn⟩

theorem mask_lo (p : Fin 64) : IntOp.cmpi .eq (IntOp.andi (BitVec.ofNat 32 (2 * p.val)) 1#32) 0#32 = 1#1 := by
  rw [mask _ (by omega), if_pos (by omega)]

theorem mask_hi (p : Fin 64) : IntOp.cmpi .eq (IntOp.andi (BitVec.ofNat 32 (2 * p.val + 1)) 1#32) 0#32 = 0#1 := by
  rw [mask _ (by omega), if_neg (by omega)]

theorem mask_hi' (p : Fin 64) : IntOp.cmpi .eq (IntOp.andi (BitVec.ofNat 32 (1 + 2 * p.val)) 1#32) 0#32 = 0#1 := by
  rw [mask _ (by omega), if_neg (by omega)]

theorem select_one {α : Type} (a b : α) : Scalar.select 1#1 a b = a := rfl
theorem select_zero {α : Type} (a b : α) : Scalar.select 0#1 a b = b := rfl

theorem lt_lo (p : Fin 64) : 2 * p.val < 127 := by omega
theorem one_add_lo (p : Fin 64) (h : 1 + 2 * p.val < 128) : (⟨1 + 2 * p.val, h⟩ : Fin 128) = hi p := Fin.ext (by simp only [hi]; omega)
theorem not_lt_hi (p : Fin 64) : ¬ 2 * p.val + 1 < 1 := by omega
theorem hi_sub (p : Fin 64) : 2 * p.val + 1 - 1 = 2 * p.val := by omega

/-- The category drawn by the kernel's tournament over four scores. -/
def tour (s0 s1 s2 s3 : EReal) : W :=
  if max s0 s1 < max s2 s3 then IntOp.addi 2#32 (BitVec.setWidth 32 (BitVec.ofBool (decide (s2 < s3))))
    else (BitVec.setWidth 32 (BitVec.ofBool (decide (s0 < s1))))

theorem z_lo (ga gb : Plane) (l0 l1 l2 l3 : EReal) (r : Fin 125) (p : Fin 64) :
    k1_pay89 (F := Ideal) (k1_pay3) ga gb l1 l2 l3 (k1_pay88 l0) (ix2 r (lo p))
      = tour (l0 + ga (ix2 r (lo p))) (l1 + gb (ix2 r (lo p))) (l2 + ga (ix2 r (hi p))) (l3 + gb (ix2 r (hi p))) := by
  pointwise [k1_pay89, k1_pay3, k1_pay88]
  simp only [mask_lo, mask_hi', select_one, select_zero, lt_lo, dif_pos, one_add_lo]
  rfl

theorem z_hi (ga gb : Plane) (l0 l1 l2 l3 : EReal) (r : Fin 125) (p : Fin 64) :
    k1_pay89 (F := Ideal) (k1_pay3) ga gb l1 l2 l3 (k1_pay88 l0) (ix2 r (hi p))
      = tour (l0 + ga (ix2 r (lo p))) (l1 + gb (ix2 r (lo p))) (l2 + ga (ix2 r (hi p))) (l3 + gb (ix2 r (hi p))) := by
  pointwise [k1_pay89, k1_pay3, k1_pay88]
  simp only [mask_lo, mask_hi, select_one, select_zero, not_lt_hi, dif_neg, not_false_eq_true, hi_sub]
  rfl

/-- The one of four values that a category names. -/
def pick (z : W) (a0 a1 a2 a3 : EReal) : EReal :=
  Scalar.select (IntOp.cmpi .eq z 0#32) a0 (Scalar.select (IntOp.cmpi .eq z 1#32) a1 (Scalar.select (IntOp.cmpi .eq z 2#32) a2 a3))

/-- Element `k` of the eight that the locations block holds of particle `p` of row `r`. -/
def lv (x : Vec Ideal S1x500x128 .f32) (r : Fin 125) (p : Fin 64) (k : Fin 8) : EReal :=
  x (ix3 0 ⟨r.val * 4 + p.val / 16, by omega⟩ ⟨p.val % 16 * 8 + k.val, by omega⟩)

/-- Element `k` of the sixteen that the covariances block holds of particle `p` of row `r`. -/
def cv (x : Vec Ideal S1x1000x128 .f32) (r : Fin 125) (p : Fin 64) (k : Fin 16) : EReal :=
  x (ix3 0 ⟨r.val * 8 + p.val / 8, by omega⟩ ⟨p.val % 8 * 16 + k.val, by omega⟩)

theorem lv_of (x : Vec Ideal S1x500x128 .f32) (r : Fin 125) (p : Fin 64) (k : Fin 8) (a b : Nat) (ha : a < 500) (hb : b < 128)
    (h : a = r.val * 4 + p.val / 16) (h' : b = p.val % 16 * 8 + k.val) : x (ix3 0 ⟨a, ha⟩ ⟨b, hb⟩) = lv x r p k := by
  subst h; subst h'; rfl

theorem cv_of (x : Vec Ideal S1x1000x128 .f32) (r : Fin 125) (p : Fin 64) (k : Fin 16) (a b : Nat) (ha : a < 1000) (hb : b < 128)
    (h : a = r.val * 8 + p.val / 8) (h' : b = p.val % 8 * 16 + k.val) : x (ix3 0 ⟨a, ha⟩ ⟨b, hb⟩) = cv x r p k := by
  subst h; subst h'; rfl

theorem loc_lo (z : IVec S125x128 32) (x : Vec Ideal S1x500x128 .f32) (r : Fin 125) (p : Fin 64) :
    k1_pay138 (F := Ideal) (k1_pay3) z x (ix2 r (lo p)) = pick (z (ix2 r (lo p))) (lv x r p 0) (lv x r p 2) (lv x r p 4) (lv x r p 6) := by
  pointwise [k1_pay138, k1_pay3]
  simp only [mask_lo, select_one, lt_lo, dif_pos]
  rw [lv_of x r p 0, lv_of x r p 2, lv_of x r p 4, lv_of x r p 6]
  · rfl
  all_goals omega

theorem loc_hi (z : IVec S125x128 32) (x : Vec Ideal S1x500x128 .f32) (r : Fin 125) (p : Fin 64) :
    k1_pay138 (F := Ideal) (k1_pay3) z x (ix2 r (hi p)) = pick (z (ix2 r (hi p))) (lv x r p 1) (lv x r p 3) (lv x r p 5) (lv x r p 7) := by
  pointwise [k1_pay138, k1_pay3]
  simp only [mask_hi, select_zero, not_lt_hi, dif_neg, not_false_eq_true, hi_sub]
  rw [lv_of x r p 1, lv_of x r p 3, lv_of x r p 5, lv_of x r p 7]
  · rfl
  all_goals omega

theorem diag_lo (z : IVec S125x128 32) (x : Vec Ideal S1x1000x128 .f32) (r : Fin 125) (p : Fin 64) :
    k1_pay142 (F := Ideal) (k1_pay3) z x (ix2 r (lo p)) = pick (z (ix2 r (lo p))) (cv x r p 0) (cv x r p 4) (cv x r p 8) (cv x r p 12) := by
  pointwise [k1_pay142, k1_pay139, k1_pay3]
  simp only [mask_lo, select_one, lt_lo, dif_pos]
  rw [cv_of x r p 0, cv_of x r p 4, cv_of x r p 8, cv_of x r p 12]
  · rfl
  all_goals omega

theorem diag_hi (z : IVec S125x128 32) (x : Vec Ideal S1x1000x128 .f32) (r : Fin 125) (p : Fin 64) :
    k1_pay142 (F := Ideal) (k1_pay3) z x (ix2 r (hi p)) = pick (z (ix2 r (hi p))) (cv x r p 3) (cv x r p 7) (cv x r p 11) (cv x r p 15) := by
  pointwise [k1_pay142, k1_pay139, k1_pay3]
  simp only [mask_hi, select_zero, not_lt_hi, dif_neg, not_false_eq_true, hi_sub]
  rw [cv_of x r p 3, cv_of x r p 7, cv_of x r p 11, cv_of x r p 15]
  · rfl
  all_goals omega

theorem off_hi0 (x : Vec Ideal S1x1000x128 .f32) (r : Fin 125) (p : Fin 64) :
    k1_pay143 (F := Ideal) x (ix2 r (hi p)) = cv x r p 2 := by
  pointwise [k1_pay143, k1_pay140, k1_pay139]
  simp only [not_lt_hi, dif_neg, not_false_eq_true, hi_sub]
  exact cv_of x r p 2 _ _ _ _ (by omega) (by omega)

theorem off_hi1 (x : Vec Ideal S1x1000x128 .f32) (r : Fin 125) (p : Fin 64) :
    k1_pay144 (F := Ideal) x (ix2 r (hi p)) = cv x r p 6 := by
  pointwise [k1_pay144, k1_pay141, k1_pay139]
  simp only [not_lt_hi, dif_neg, not_false_eq_true, hi_sub]
  exact cv_of x r p 6 _ _ _ _ (by omega) (by omega)

theorem off_hi2 (x : Vec Ideal S1x1000x128 .f32) (r : Fin 125) (p : Fin 64) :
    k1_pay140 (F := Ideal) x (ix2 r (hi p)) = cv x r p 10 := by
  pointwise [k1_pay140, k1_pay139]
  exact cv_of x r p 10 _ _ _ _ (by omega) (by omega)

theorem off_hi3 (x : Vec Ideal S1x1000x128 .f32) (r : Fin 125) (p : Fin 64) :
    k1_pay141 (F := Ideal) x (ix2 r (hi p)) = cv x r p 14 := by
  pointwise [k1_pay141, k1_pay139]
  exact cv_of x r p 14 _ _ _ _ (by omega) (by omega)

theorem left_hi (a b c d : Plane) (r : Fin 125) (p : Fin 64) :
    k1_pay137 (F := Ideal) a b c d (ix2 r (hi p)) = k1_pay136 (F := Ideal) a b c d (ix2 r (lo p)) := by
  pointwise [k1_pay137]
  simp only [not_lt_hi, dif_neg, not_false_eq_true, hi_sub]

theorem np_lo (z : IVec S125x128 32) (e el lc o2 o6 dg a0 a1 : Plane) (x : Vec Ideal S1x125x128 .f32) (r : Fin 125) (p : Fin 64) :
    k1_pay146 (F := Ideal) (k1_pay3) z e el lc o2 o6 dg a0 a1 k1_pay145 x (ix3 0 r (lo p))
      = x (ix3 0 r (lo p)) + (lc (ix2 r (lo p)) + Ideal.exp (dg (ix2 r (lo p))) * e (ix2 r (lo p))) := by
  pointwise [k1_pay146, k1_pay145, k1_pay3]
  simp only [mask_lo, select_one, add_zero]

theorem np_hi (z : IVec S125x128 32) (e el lc o2 o6 dg a0 a1 : Plane) (x : Vec Ideal S1x125x128 .f32) (r : Fin 125) (p : Fin 64) :
    k1_pay146 (F := Ideal) (k1_pay3) z e el lc o2 o6 dg a0 a1 k1_pay145 x (ix3 0 r (hi p))
      = x (ix3 0 r (hi p)) + (lc (ix2 r (hi p)) + Ideal.exp (dg (ix2 r (hi p))) * e (ix2 r (hi p))
        + pick (z (ix2 r (hi p))) (a0 (ix2 r (hi p))) (a1 (ix2 r (hi p))) (o2 (ix2 r (hi p))) (o6 (ix2 r (hi p))) * el (ix2 r (hi p))) := by
  pointwise [k1_pay146, k1_pay145, k1_pay3]
  simp only [mask_hi, select_zero]
  rfl

/-- The printed floored half of a row number, and its comparison with a lane number. -/
theorem half (x : Fin 128) (l : Fin 64) :
    IntOp.cmpi CmpIPredicate.eq
            (Scalar.select
              (IntOp.andi
                (IntOp.cmpi CmpIPredicate.ne
                  (IntOp.subi (BitVec.setWidth 32 (IntOp.cmpi CmpIPredicate.sgt (BitVec.ofNat 32 x.val) 0#32))
                    (BitVec.setWidth 32 (IntOp.cmpi CmpIPredicate.slt (BitVec.ofNat 32 x.val) 0#32)))
                  (Scalar.subi (Scalar.extui (Scalar.cmpi CmpIPredicate.sgt 2#32 0#32))
                    (Scalar.extui (Scalar.cmpi CmpIPredicate.slt 2#32 0#32))))
                (IntOp.cmpi CmpIPredicate.ne (IntOp.remsi ArithUnit.vector (BitVec.ofNat 32 x.val) 2#32) 0#32))
              (IntOp.subi (IntOp.divsi ArithUnit.vector (BitVec.ofNat 32 x.val) 2#32) 1#32)
              (IntOp.divsi ArithUnit.vector (BitVec.ofNat 32 x.val) 2#32))
            (BitVec.ofNat 32 l.val) = if x.val / 2 = l.val then 1#1 else 0#1 := by
  revert x l
  decide +kernel

theorem sum_pair (f : Fin 128 → EReal) (l : Fin 64) :
    (∑ x : Fin 128, Scalar.select (if x.val / 2 = l.val then 1#1 else 0#1) (f x) 0) = f (lo l) + f (hi l) := by
  rw [Finset.sum_eq_add (lo l) (hi l) (by simp [lo, hi])]
  · rw [if_pos (by simp only [lo]; omega), if_pos (by simp only [hi]; omega)]; rfl
  · intro x _ hx
    rw [if_neg]; · rfl
    intro h
    have h1 : x.val ≠ 2 * l.val := fun h' => hx.1 (Fin.ext h')
    have h2 : x.val ≠ 2 * l.val + 1 := fun h' => hx.2 (Fin.ext h')
    omega
  · intro h; exact absurd (Finset.mem_univ _) h
  · intro h; exact absurd (Finset.mem_univ _) h

theorem ofBits_half : Ideal.ofBits FTy.f32 1056964608#32 = ((1 / 2 : ℝ) : EReal) := by
  simp [Ideal.ofBits, Ideal.ieee, -EReal.coe_mul]; norm_num

/-- A small whole number halved twice and added is itself. -/
theorem fptosi_half (w : W) (hw : w.toNat < 4) :
    FloatOps.fptosi (F := Ideal) (φ := .f32) 32 ((((w.toInt : ℝ) : EReal) * Ideal.ofBits FTy.f32 1056964608#32
      + ((w.toInt : ℝ) : EReal) * Ideal.ofBits FTy.f32 1056964608#32 : EReal)) = w := by
  rw [ofBits_half]
  rw [← EReal.coe_mul, ← EReal.coe_add]
  have h2 : ((w.toInt : ℝ) * (1 / 2) + (w.toInt : ℝ) * (1 / 2)) = (w.toInt : ℝ) := by ring
  rw [h2]
  show BitVec.ofInt 32 (Ideal.toIntClamped _ _ ((w.toInt : ℝ) : EReal)) = w
  rw [Ideal.toIntClamped_coe]
  have h3 : w.toInt = w.toNat := by rw [BitVec.toInt_eq_toNat_of_lt (by omega)]
  rw [h3, if_pos (by positivity)]
  simp only [Int.cast_natCast, Int.floor_natCast]
  rw [min_eq_right (by omega), max_eq_right (by omega)]
  simp

theorem tour_lt (s0 s1 s2 s3 : EReal) : (tour s0 s1 s2 s3).toNat < 4 := by
  unfold tour
  split_ifs <;> by_cases h : s2 < s3 <;> by_cases h' : s0 < s1 <;> simp [h, h', IntOp.addi]

theorem zst (z : IVec S125x128 32) (r : Fin 125) (l : Fin 64) (w : W) (hw : w.toNat < 4) (h0 : z (ix2 r (lo l)) = w)
    (h1 : z (ix2 r (hi l)) = w) :
    k1_pay1 (F := Ideal) z (iota Kind.tc S128x64 32 [1] iota_S128x64_d1_w32) k1_pay147 k1_pay148 (ix3 0 r l) = w := by
  pointwise [k1_pay1, k1_pay147, k1_pay148]
  simp only [half]
  rw [sum_pair, h0, h1]
  exact fptosi_half w hw

end Cert.KernelIdeal.Val
-- ==== Proof.Block.lean ====
/- A block's two results, particle by particle: the category drawn and the two new coordinates. -/
module

public import proofs.«01_k».proof.Proof.Lanes
public import proofs.«01_k».proof.Proof.Gen.KernelIdeal.Frame
public import Idealize.ShloMosaic.Lib.Pipeline.ValueKit

@[expose] public section

set_option maxRecDepth 16384

noncomputable section

namespace Cert.Spec

open Idealize.ShloMosaic

/-- The Gumbel noise at position `q` of the draw under the key `(a, b)`. -/
def draw (a b : W) (q : Nat) : EReal := gum (pos .host (mix (tf gH a b 0#32 (BitVec.ofNat 32 q))))
/-- The normal deviate at position `q` under the key `(a, b)`. -/
def dev (a b : W) (q : Nat) : EReal := epsK (sym .host (mix (tf gH a b 0#32 (BitVec.ofNat 32 q))))

end Cert.Spec

namespace Cert.KernelIdeal.Val

open Idealize.ShloMosaic Cert.Spec Cert.KernelIdeal.Gen

/-- The category of particle `n`. -/
def zOf (a b : W) (l0 l1 l2 l3 : EReal) (n : Nat) : W :=
  tour (l0 + draw a b (4 * n)) (l1 + draw a b (4 * n + 1)) (l2 + draw a b (4 * n + 2)) (l3 + draw a b (4 * n + 3))

/-- The number of particle `p` of row `r` of block `i`. -/
abbrev num (i : Nat) (r : Fin 125) (p : Fin 64) : Nat := 8000 * i + 64 * r.val + p.val

theorem pay2_at (i : grid1.Coords) (r : Fin 125) (l : Fin 128) :
    k1_pay2 i (ix2 r l) = BitVec.ofNat 32 (16000 * (i 0).val + 128 * r.val + l.val) := by
  pointwise [k1_pay2]
  apply BitVec.eq_of_toNat_eq
  simp [IntOp.addi, IntOp.muli, Scalar.muli]
  omega

theorem pay4_at (i : grid1.Coords) (r : Fin 125) (l : Fin 128) :
    k1_pay4 i (ix2 r l) = BitVec.ofNat 32 (2 * (16000 * (i 0).val + 128 * r.val + l.val)) := by
  have h : k1_pay4 i (ix2 r l) = IntOp.muli (k1_pay2 i (ix2 r l)) 2#32 := rfl
  rw [h, pay2_at]
  apply BitVec.eq_of_toNat_eq
  simp [IntOp.muli]
  omega

theorem gA_draw (i : grid1.Coords) (a b : W) (r : Fin 125) (l : Fin 128) (q : Nat)
    (h : q = 2 * (16000 * (i 0).val + 128 * r.val + l.val)) : gA i a b (ix2 r l) = draw a b q := by
  subst h
  rw [gA_at, gumK_eq, tf_gV, pay4_at]
  unfold draw pos
  rw [unit_eq]

theorem gB_draw (i : grid1.Coords) (a b : W) (r : Fin 125) (l : Fin 128) (q : Nat)
    (h : q = 2 * (16000 * (i 0).val + 128 * r.val + l.val) + 1) : gB i a b (ix2 r l) = draw a b q := by
  subst h
  rw [gB_at, gumK_eq, tf_gV, pay4_at, show IntOp.addi (BitVec.ofNat 32 (2 * (16000 * (i 0).val + 128 * r.val + l.val))) 1#32
    = BitVec.ofNat 32 (2 * (16000 * (i 0).val + 128 * r.val + l.val) + 1) from (BitVec.ofNat_add _ _).symm]
  unfold draw pos
  rw [unit_eq]

theorem ev_dev (i : grid1.Coords) (a b : W) (r : Fin 125) (l : Fin 128) (q : Nat)
    (h : q = 16000 * (i 0).val + 128 * r.val + l.val) : ev i a b (ix2 r l) = dev a b q := by
  subst h
  rw [ev_at, ue_at, tf_gV, pay2_at]
  unfold dev sym
  rw [unit_eq]

section block
variable (i : grid1.Coords) (a b a' b' : W) (l0 l1 l2 l3 : EReal)

/-- The categories of a block, each at both of its lanes. -/
def zB : IVec S125x128 32 := k1_pay89 (F := Ideal) (k1_pay3) (gA i a b) (gB i a b) l1 l2 l3 (k1_pay88 l0)

theorem zB_lo (r : Fin 125) (p : Fin 64) : zB i a b l0 l1 l2 l3 (ix2 r (lo p)) = zOf a b l0 l1 l2 l3 (num (i 0).val r p) := by
  unfold zB
  rw [z_lo, gA_draw i a b r (lo p) (4 * num (i 0).val r p) (by simp only [lo, num]; omega),
    gB_draw i a b r (lo p) (4 * num (i 0).val r p + 1) (by simp only [lo, num]; omega),
    gA_draw i a b r (hi p) (4 * num (i 0).val r p + 2) (by simp only [hi, num]; omega),
    gB_draw i a b r (hi p) (4 * num (i 0).val r p + 3) (by simp only [hi, num]; omega)]
  rfl

theorem zB_hi (r : Fin 125) (p : Fin 64) : zB i a b l0 l1 l2 l3 (ix2 r (hi p)) = zOf a b l0 l1 l2 l3 (num (i 0).val r p) :=
  ((z_hi _ _ l0 l1 l2 l3 r p).trans (z_lo _ _ l0 l1 l2 l3 r p).symm).trans (zB_lo i a b l0 l1 l2 l3 r p)

/-- The categories a block stores. -/
def outZ : IVec S1x125x64 32 :=
  k1_pay1 (F := Ideal) (zB i a b l0 l1 l2 l3) (iota Kind.tc S128x64 32 [1] iota_S128x64_d1_w32) k1_pay147 k1_pay148

theorem outZ_at (r : Fin 125) (p : Fin 64) : outZ i a b l0 l1 l2 l3 (ix3 0 r p) = zOf a b l0 l1 l2 l3 (num (i 0).val r p) :=
  zst _ r p _ (tour_lt _ _ _ _) (zB_lo i a b l0 l1 l2 l3 r p) (zB_hi i a b l0 l1 l2 l3 r p)

variable (x2 : Vec Ideal S1x125x128 .f32) (x3 : Vec Ideal S1x500x128 .f32) (x4 : Vec Ideal S1x1000x128 .f32)

/-- The positions a block stores. -/
def outP : Vec Ideal S1x125x128 .f32 :=
  k1_pay146 (F := Ideal) (k1_pay3) (zB i a b l0 l1 l2 l3) (ev i a' b') (k1_pay137 (F := Ideal) (ue i a' b') (we i a' b') (ce i a' b') (k1_pay135 (we i a' b')))
    (k1_pay138 (F := Ideal) (k1_pay3) (zB i a b l0 l1 l2 l3) x3) (k1_pay140 x4) (k1_pay141 x4) (k1_pay142 (F := Ideal) (k1_pay3) (zB i a b l0 l1 l2 l3) x4)
    (k1_pay143 x4) (k1_pay144 x4) k1_pay145 x2

theorem outP_lo (r : Fin 125) (p : Fin 64) : outP i a b a' b' l0 l1 l2 l3 x2 x3 x4 (ix3 0 r (lo p))
    = x2 (ix3 0 r (lo p))
      + (pick (zOf a b l0 l1 l2 l3 (num (i 0).val r p)) (lv x3 r p 0) (lv x3 r p 2) (lv x3 r p 4) (lv x3 r p 6)
        + Ideal.exp (pick (zOf a b l0 l1 l2 l3 (num (i 0).val r p)) (cv x4 r p 0) (cv x4 r p 4) (cv x4 r p 8) (cv x4 r p 12))
          * dev a' b' (2 * num (i 0).val r p)) := by
  unfold outP
  rw [np_lo, loc_lo, diag_lo, zB_lo, ev_dev i a' b' r (lo p) (2 * num (i 0).val r p) (by simp only [lo, num]; omega)]

theorem outP_hi (r : Fin 125) (p : Fin 64) : outP i a b a' b' l0 l1 l2 l3 x2 x3 x4 (ix3 0 r (hi p))
    = x2 (ix3 0 r (hi p))
      + (pick (zOf a b l0 l1 l2 l3 (num (i 0).val r p)) (lv x3 r p 1) (lv x3 r p 3) (lv x3 r p 5) (lv x3 r p 7)
        + Ideal.exp (pick (zOf a b l0 l1 l2 l3 (num (i 0).val r p)) (cv x4 r p 3) (cv x4 r p 7) (cv x4 r p 11) (cv x4 r p 15))
          * dev a' b' (2 * num (i 0).val r p + 1)
        + pick (zOf a b l0 l1 l2 l3 (num (i 0).val r p)) (cv x4 r p 2) (cv x4 r p 6) (cv x4 r p 10) (cv x4 r p 14)
          * dev a' b' (2 * num (i 0).val r p)) := by
  unfold outP
  rw [np_hi, loc_hi, diag_hi, zB_hi, off_hi0, off_hi1, off_hi2, off_hi3, left_hi,
    ev_dev i a' b' r (hi p) (2 * num (i 0).val r p + 1) (by simp only [hi, num]; omega)]
  rw [show k1_pay136 (F := Ideal) (ue i a' b') (we i a' b') (ce i a' b') (k1_pay135 (we i a' b')) (ix2 r (lo p)) = ev i a' b' (ix2 r (lo p)) from rfl,
    ev_dev i a' b' r (lo p) (2 * num (i 0).val r p) (by simp only [lo, num]; omega)]

end block

section folds
variable (i : grid1.Coords) (a b : W)

theorem f_ks2 : Scalar.xori (Scalar.xori a b) 466688986#32 = ks2 a b := rfl
theorem f_a2y : k1_pay20 (F := Ideal) b (ks2 a b) (k1_pay9 (F := Ideal) i a b) (k1_pay10 (F := Ideal) i a b) = a2y i a b := rfl
theorem f_a2x : k1_pay21 (F := Ideal) b (ks2 a b) (k1_pay9 (F := Ideal) i a b) (k1_pay10 (F := Ideal) i a b) = a2x i a b := rfl
theorem f_a4y : k1_pay32 (F := Ideal) a b (ks2 a b) (a2y i a b) (a2x i a b) = a4y i a b := rfl
theorem f_a4x : k1_pay33 (F := Ideal) a b (ks2 a b) (a2y i a b) (a2x i a b) = a4x i a b := rfl
theorem f_gA : k1_pay86 (F := Ideal) (k1_pay45 (F := Ideal) a (ks2 a b) (k1_pay43 (F := Ideal) b (ks2 a b) (a4y i a b) (a4x i a b)) (k1_pay44 (F := Ideal) b (ks2 a b) (a4y i a b) (a4x i a b))) = gA i a b := rfl
theorem f_b2x : k1_pay61 (F := Ideal) b (ks2 a b) (k1_pay49 (F := Ideal) a b (k1_pay4 i)) (k1_pay50 (F := Ideal) a b (k1_pay4 i)) = b2x i a b := rfl
theorem f_b2o : k1_pay62 (F := Ideal) b (ks2 a b) (k1_pay49 (F := Ideal) a b (k1_pay4 i)) (k1_pay50 (F := Ideal) a b (k1_pay4 i)) = b2o i a b := rfl
theorem f_b4x : k1_pay72 (F := Ideal) a b (ks2 a b) (b2x i a b) (b2o i a b) = b4x i a b := rfl
theorem f_b4y : k1_pay73 (F := Ideal) a b (ks2 a b) (b2x i a b) (b2o i a b) = b4y i a b := rfl
theorem f_gB : k1_pay87 (F := Ideal) a (ks2 a b) (k1_pay84 (F := Ideal) b (ks2 a b) (b4x i a b) (b4y i a b)) (k1_pay85 (F := Ideal) b (ks2 a b) (b4x i a b) (b4y i a b)) = gB i a b := rfl
theorem f_e2x : k1_pay105 (F := Ideal) b (ks2 a b) (k1_pay93 (F := Ideal) (k1_pay2 i) a b) (k1_pay94 (F := Ideal) (k1_pay2 i) a b) = e2x i a b := rfl
theorem f_e2o : k1_pay106 (F := Ideal) b (ks2 a b) (k1_pay93 (F := Ideal) (k1_pay2 i) a b) (k1_pay94 (F := Ideal) (k1_pay2 i) a b) = e2o i a b := rfl
theorem f_e4x : k1_pay116 (F := Ideal) a b (ks2 a b) (e2x i a b) (e2o i a b) = e4x i a b := rfl
theorem f_e4y : k1_pay117 (F := Ideal) a b (ks2 a b) (e2x i a b) (e2o i a b) = e4y i a b := rfl
theorem f_e5x : k1_pay128 (F := Ideal) b (ks2 a b) (e4x i a b) (e4y i a b) = e5x i a b := rfl
theorem f_e5o : k1_pay129 (F := Ideal) b (ks2 a b) (e4x i a b) (e4y i a b) = e5o i a b := rfl
theorem f_ue : k1_pay130 (F := Ideal) a (ks2 a b) (e5x i a b) (e5o i a b) = ue i a b := rfl
theorem f_we : k1_pay131 (F := Ideal) a (ks2 a b) (e5x i a b) (e5o i a b) = we i a b := rfl
theorem f_ce : k1_pay134 (F := Ideal) (k1_pay132 (F := Ideal) a (ks2 a b) (e5x i a b) (e5o i a b)) (k1_pay133 (F := Ideal) a (ks2 a b) (e5x i a b) (e5o i a b)) (C 0xB6935AC1#32) = ce i a b := rfl
theorem f_ev : k1_pay136 (F := Ideal) (ue i a b) (we i a b) (ce i a b) (k1_pay135 (we i a b)) = ev i a b := rfl

end folds

section stores
variable (V : (c : Dev nD) → (b : Ref sig .tc) → Buf (Elt Ideal) ((c : Dev nD), (Proc.devRef .tc b : DevRef τ sig))) (c : Dev nD) (t : Fin cfg1.N)

theorem ldk00 (h) : View.ld (iblk1 V c 1 t) (Rect.unit ![0, 0] ![1, 1] inb_S2x2_S1x1_0_0) (Shape.Idx.first h) = iblk1 V c 1 t (ix2 0 0) := by
  exact congrArg (iblk1 V c 1 t) (funext fun a => Fin.ext (by fin_cases a <;> rfl))
theorem ldk01 (h) : View.ld (iblk1 V c 1 t) (Rect.unit ![0, 1] ![1, 1] inb_S2x2_S1x1_0_1) (Shape.Idx.first h) = iblk1 V c 1 t (ix2 0 1) := by
  exact congrArg (iblk1 V c 1 t) (funext fun a => Fin.ext (by fin_cases a <;> rfl))
theorem ldk10 (h) : View.ld (iblk1 V c 1 t) (Rect.unit ![1, 0] ![1, 1] inb_S2x2_S1x1_1_0) (Shape.Idx.first h) = iblk1 V c 1 t (ix2 1 0) := by
  exact congrArg (iblk1 V c 1 t) (funext fun a => Fin.ext (by fin_cases a <;> rfl))
theorem ldk11 (h) : View.ld (iblk1 V c 1 t) (Rect.unit ![1, 1] ![1, 1] inb_S2x2_S1x1_1_1) (Shape.Idx.first h) = iblk1 V c 1 t (ix2 1 1) := by
  exact congrArg (iblk1 V c 1 t) (funext fun a => Fin.ext (by fin_cases a <;> rfl))
theorem ldl0 (h) : View.ld (iblk1 V c 0 t) (Rect.unit ![0, 0] ![1, 1] inb_S4x1_S1x1_0_0) (Shape.Idx.first h) = iblk1 V c 0 t (ix2 0 0) := by
  exact congrArg (iblk1 V c 0 t) (funext fun a => Fin.ext (by fin_cases a <;> rfl))
theorem ldl1 (h) : View.ld (iblk1 V c 0 t) (Rect.unit ![1, 0] ![1, 1] inb_S4x1_S1x1_1_0) (Shape.Idx.first h) = iblk1 V c 0 t (ix2 1 0) := by
  exact congrArg (iblk1 V c 0 t) (funext fun a => Fin.ext (by fin_cases a <;> rfl))
theorem ldl2 (h) : View.ld (iblk1 V c 0 t) (Rect.unit ![2, 0] ![1, 1] inb_S4x1_S1x1_2_0) (Shape.Idx.first h) = iblk1 V c 0 t (ix2 2 0) := by
  exact congrArg (iblk1 V c 0 t) (funext fun a => Fin.ext (by fin_cases a <;> rfl))
theorem ldl3 (h) : View.ld (iblk1 V c 0 t) (Rect.unit ![3, 0] ![1, 1] inb_S4x1_S1x1_3_0) (Shape.Idx.first h) = iblk1 V c 0 t (ix2 3 0) := by
  exact congrArg (iblk1 V c 0 t) (funext fun a => Fin.ext (by fin_cases a <;> rfl))

/-- What the body stores of positions at a point, over its blocks. -/
theorem outs_pos : (outsAt1 (F := Ideal) V c t).1
    = outP (grid1.coords t) (iblk1 V c 1 t (ix2 0 0)) (iblk1 V c 1 t (ix2 0 1)) (iblk1 V c 1 t (ix2 1 0)) (iblk1 V c 1 t (ix2 1 1))
      (iblk1 V c 0 t (ix2 0 0)) (iblk1 V c 0 t (ix2 1 0)) (iblk1 V c 0 t (ix2 2 0)) (iblk1 V c 0 t (ix2 3 0))
      (iblk1 V c 2 t) (iblk1 V c 3 t) (iblk1 V c 4 t) := by
  unfold outsAt1
  frame_out
  simp only [ldk00, ldk01, ldk10, ldk11, ldl0, ldl1, ldl2, ldl3, f_ks2, f_a2y, f_a2x, f_a4y, f_a4x, f_gA, f_b2x, f_b2o, f_b4x, f_b4y, f_gB, f_e2x, f_e2o, f_e4x, f_e4y, f_e5x, f_e5o, f_ue, f_we, f_ce, f_ev]
  rfl

/-- What the body stores of categories at a point, over its blocks. -/
theorem outs_cat : (outsAt1 (F := Ideal) V c t).2
    = outZ (grid1.coords t) (iblk1 V c 1 t (ix2 0 0)) (iblk1 V c 1 t (ix2 0 1))
      (iblk1 V c 0 t (ix2 0 0)) (iblk1 V c 0 t (ix2 1 0)) (iblk1 V c 0 t (ix2 2 0)) (iblk1 V c 0 t (ix2 3 0)) := by
  unfold outsAt1
  frame_out
  simp only [ldk00, ldk01, ldk10, ldk11, ldl0, ldl1, ldl2, ldl3, f_ks2, f_a2y, f_a2x, f_a4y, f_a4x, f_gA, f_b2x, f_b2o, f_b4x, f_b4y, f_gB, f_e2x, f_e2o, f_e4x, f_e4y, f_e5x, f_e5o, f_ue, f_we, f_ce, f_ev]
  rfl

end stores

end Cert.KernelIdeal.Val
-- ==== Proof.Arr.lean ====
/- The second region's two result arrays, over the arrays the region is entered with. -/
module

public import proofs.«01_k».proof.Proof.Block

@[expose] public section

set_option maxRecDepth 16384

noncomputable section

namespace Cert.KernelIdeal.Val

open Idealize.ShloMosaic Idealize.ShloMosaic.TcCoe Cert.Spec Cert.KernelIdeal.Gen
open Idealize.ShloMosaic.Pipeline (Dat)

/-- Block `i` of an array of 125 blocks. -/
def blkP (x : Vec Ideal S125x125x128 .f32) (i : Fin 125) : Vec Ideal S1x125x128 .f32 := fun y => x (ix3 i (y 1) (y 2))
def blkL (x : Vec Ideal S125x500x128 .f32) (i : Fin 125) : Vec Ideal S1x500x128 .f32 := fun y => x (ix3 i (y 1) (y 2))
def blkC (x : Vec Ideal S125x1000x128 .f32) (i : Fin 125) : Vec Ideal S1x1000x128 .f32 := fun y => x (ix3 i (y 1) (y 2))

/-- The point of the grid numbered `i`. -/
def pt (i : Fin 125) : grid1.Coords := fun a => ⟨i.val, by fin_cases a; exact i.isLt⟩

/-- The array of positions. -/
def arrP (kk : Vec Ideal S2x2 .i32) (lp : Vec Ideal S4x1 .f32) (xp : Vec Ideal S125x125x128 .f32) (xl : Vec Ideal S125x500x128 .f32)
    (xc : Vec Ideal S125x1000x128 .f32) : Vec Ideal S125x125x128 .f32 := fun j =>
  outP (pt (j 0)) (kk (ix2 0 0)) (kk (ix2 0 1)) (kk (ix2 1 0)) (kk (ix2 1 1)) (lp (ix2 0 0)) (lp (ix2 1 0)) (lp (ix2 2 0)) (lp (ix2 3 0))
    (blkP xp (j 0)) (blkL xl (j 0)) (blkC xc (j 0)) (ix3 0 (j 1) (j 2))

/-- The array of categories. -/
def arrZ (kk : Vec Ideal S2x2 .i32) (lp : Vec Ideal S4x1 .f32) : Vec Ideal S125x125x64 .i32 := fun j =>
  outZ (pt (j 0)) (kk (ix2 0 0)) (kk (ix2 0 1)) (lp (ix2 0 0)) (lp (ix2 1 0)) (lp (ix2 2 0)) (lp (ix2 3 0)) (ix3 0 (j 1) (j 2))

theorem idx1 : ∀ t : Fin cfg1.N, win1_0.index t = ![0, 0] ∧ win1_1.index t = ![0, 0] ∧ win1_2.index t = ![(grid1.coords t 0).val, 0, 0]
    ∧ win1_3.index t = ![(grid1.coords t 0).val, 0, 0] ∧ win1_4.index t = ![(grid1.coords t 0).val, 0, 0]
    ∧ win1_5.index t = ![(grid1.coords t 0).val, 0, 0] ∧ win1_6.index t = ![(grid1.coords t 0).val, 0, 0] :=
  (by decide +kernel : ∀ t : Fin grid1.N, _)

variable (V : (c : Dev nD) → (b : Ref sig .tc) → Buf (Elt Ideal) ((c : Dev nD), (Proc.devRef .tc b : DevRef τ sig))) (c : Dev nD)

/-- The number of a point. -/
abbrev ci (t : Fin cfg1.N) : Fin 125 := grid1.coords t 0

theorem coords_pt (t : Fin cfg1.N) : grid1.coords t = pt (ci t) := by
  funext a
  fin_cases a
  rfl

theorem blk0 (t : Fin cfg1.N) : iblk1 V c 0 t = V c main_v361 := by
  funext y
  blk_ext [iblk1, idx1 t]
theorem blk1 (t : Fin cfg1.N) : iblk1 V c 1 t = V c main_v357 := by
  funext y
  blk_ext [iblk1, idx1 t]
theorem blk2 (t : Fin cfg1.N) : iblk1 V c 2 t = blkP (V c main_v362) (ci t) := by
  funext y
  unfold blkP
  blk_ext [iblk1, idx1 t]
theorem blk3 (t : Fin cfg1.N) : iblk1 V c 3 t = blkL (V c main_v363) (ci t) := by
  funext y
  unfold blkL
  blk_ext [iblk1, idx1 t]
theorem blk4 (t : Fin cfg1.N) : iblk1 V c 4 t = blkC (V c main_v364) (ci t) := by
  funext y
  unfold blkC
  blk_ext [iblk1, idx1 t]

theorem arr5 : (dat1 V c).arrAt 5 cfg1.N = arrP (V c main_v357) (V c main_v361) (V c main_v362) (V c main_v363) (V c main_v364) := by
  refine (dat1 V c).arrAt_eq_of_covers 5 _ (by decide +kernel) fun t _ y => ?_
  blk_simp
  rw [after1_5, outs_pos, blk0, blk1, blk2, blk3, blk4, coords_pt]
  have he : (win1_5.blk t).view.emb y = (ix3 (ci t) (y 1) (y 2) : S125x125x128.Idx) := by
    blk_ext [idx1 t]
  have hy : y = (ix3 0 (y 1) (y 2) : S1x125x128.Idx) := by
    blk_ext
  rw [he]
  exact congrArg _ hy

theorem arr6 : (dat1 V c).arrAt 6 cfg1.N = arrZ (V c main_v357) (V c main_v361) := by
  refine (dat1 V c).arrAt_eq_of_covers 6 _ (by decide +kernel) fun t _ y => ?_
  blk_simp
  rw [after1_6, outs_cat, blk0, blk1, coords_pt]
  have he : (win1_6.blk t).view.emb y = (ix3 (ci t) (y 1) (y 2) : S125x125x64.Idx) := by
    blk_ext [idx1 t]
  have hy : y = (ix3 0 (y 1) (y 2) : S1x125x64.Idx) := by
    blk_ext
  rw [he]
  exact congrArg _ hy

end Cert.KernelIdeal.Val
-- ==== Proof.Flat.lean ====
/- The host's reshapes around the second region, read at a particle. -/
module

public import proofs.«01_k».proof.Proof.Arr

@[expose] public section

set_option maxRecDepth 16384

noncomputable section

namespace Cert.KernelIdeal.Val

open Idealize.ShloMosaic Idealize.ShloMosaic.TcCoe Cert.Spec Cert.KernelIdeal.Gen

/-- A particle's block, row and place in the row. -/
def bk (n : Fin 1000000) : Fin 125 := ⟨n.val / 8000, by omega⟩
def rowOf (n : Fin 1000000) : Fin 125 := ⟨n.val % 8000 / 64, by omega⟩
def pl (n : Fin 1000000) : Fin 64 := ⟨n.val % 64, by omega⟩

theorem num_bk (n : Fin 1000000) : num (bk n).val (rowOf n) (pl n) = n.val := by
  simp only [num, bk, rowOf, pl]
  omega

theorem flatZ (y : Vec Ideal S125x125x64 .i32) (h : S125x125x64.ShapeCasts S1000000) (n : Fin 1000000) :
    shapeCast S1000000 y h (ix1 n) = y (ix3 (bk n) (rowOf n) (pl n)) := by
  refine shapeCast_apply y h _ _ ?_
  rw [Shape.rowMajor_val_three, Shape.rowMajor_val_one]
  simp only [bk, rowOf, pl, ix1, ix3, Matrix.cons_val_zero, Matrix.cons_val_one, Matrix.cons_val]
  omega

theorem flatP0 (y : Vec Ideal S125x125x128 .f32) (h : S125x125x128.ShapeCasts S1000000x2) (n : Fin 1000000) :
    shapeCast S1000000x2 y h (ix2 n 0) = y (ix3 (bk n) (rowOf n) (lo (pl n))) := by
  refine shapeCast_apply y h _ _ ?_
  rw [Shape.rowMajor_val_three, Shape.rowMajor_val_two]
  simp only [bk, rowOf, pl, lo, ix2, ix3, Matrix.cons_val_zero, Matrix.cons_val_one, Matrix.cons_val]
  omega

theorem flatP1 (y : Vec Ideal S125x125x128 .f32) (h : S125x125x128.ShapeCasts S1000000x2) (n : Fin 1000000) :
    shapeCast S1000000x2 y h (ix2 n 1) = y (ix3 (bk n) (rowOf n) (hi (pl n))) := by
  refine shapeCast_apply y h _ _ ?_
  rw [Shape.rowMajor_val_three, Shape.rowMajor_val_two]
  simp only [bk, rowOf, pl, hi, ix2, ix3, Matrix.cons_val_zero, Matrix.cons_val_one, Matrix.cons_val]
  omega

theorem rows0 (x : Vec Ideal S1000000x2 .f32) (h : S1000000x2.ShapeCasts S125x125x128) (n : Fin 1000000) :
    blkP (shapeCast S125x125x128 x h) (bk n) (ix3 0 (rowOf n) (lo (pl n))) = x (ix2 n 0) := by
  refine shapeCast_apply x h _ _ ?_
  rw [Shape.rowMajor_val_three, Shape.rowMajor_val_two]
  simp only [bk, rowOf, pl, lo, ix2, ix3, Matrix.cons_val_zero, Matrix.cons_val_one, Matrix.cons_val]
  omega

theorem rows1 (x : Vec Ideal S1000000x2 .f32) (h : S1000000x2.ShapeCasts S125x125x128) (n : Fin 1000000) :
    blkP (shapeCast S125x125x128 x h) (bk n) (ix3 0 (rowOf n) (hi (pl n))) = x (ix2 n 1) := by
  refine shapeCast_apply x h _ _ ?_
  rw [Shape.rowMajor_val_three, Shape.rowMajor_val_two]
  simp only [bk, rowOf, pl, hi, ix2, ix3, Matrix.cons_val_zero, Matrix.cons_val_one, Matrix.cons_val]
  omega

theorem rowsL (x : Vec Ideal S1000000x4x2 .f32) (h : S1000000x4x2.ShapeCasts S125x500x128) (n : Fin 1000000) (k : Fin 8) :
    lv (blkL (shapeCast S125x500x128 x h) (bk n)) (rowOf n) (pl n) k = x (ix3 n ⟨k.val / 2, by omega⟩ ⟨k.val % 2, by omega⟩) := by
  refine shapeCast_apply x h _ _ ?_
  rw [Shape.rowMajor_val_three, Shape.rowMajor_val_three]
  simp only [bk, rowOf, pl, ix3, Matrix.cons_val_zero, Matrix.cons_val_one, Matrix.cons_val]
  omega

theorem rowsC (x : Vec Ideal S1000000x4x2x2 .f32) (h : S1000000x4x2x2.ShapeCasts S125x1000x128) (n : Fin 1000000) (k : Fin 16) :
    cv (blkC (shapeCast S125x1000x128 x h) (bk n)) (rowOf n) (pl n) k
      = x (ix4 n ⟨k.val / 4, by omega⟩ ⟨k.val / 2 % 2, by omega⟩ ⟨k.val % 2, by omega⟩) := by
  refine shapeCast_apply x h _ _ ?_
  rw [Shape.rowMajor_val_three, Shape.rowMajor_val_four]
  simp only [bk, rowOf, pl, ix3, ix4, Matrix.cons_val_zero, Matrix.cons_val_one, Matrix.cons_val]
  omega

/-- Choosing among four by a category is reading at it. -/
theorem pick_at (z : W) (a : Fin 4 → EReal) (c : Fin 4) (h : z = BitVec.ofNat 32 c.val) : pick z (a 0) (a 1) (a 2) (a 3) = a c := by
  subst h
  fin_cases c <;> rfl

/-- The column the region reads the state from, and the two biases. -/
theorem row_at (x : Vec Ideal S2 .f32) (h : S2.ShapeCasts S1x2) (i : Fin 2) : shapeCast S1x2 x h (ix2 0 i) = x (ix1 i) := by
  refine shapeCast_apply x h _ _ ?_
  rw [Shape.rowMajor_val_one, Shape.rowMajor_val_two]
  simp only [ix1, ix2, Matrix.cons_val_zero, Matrix.cons_val_one, Matrix.cons_val]
  omega

theorem col_at (x : Vec Ideal S4 .f32) (h : S4.ShapeCasts S4x1) (i : Fin 4) : shapeCast S4x1 x h (ix2 i 0) = x (ix1 i) := by
  refine shapeCast_apply x h _ _ ?_
  rw [Shape.rowMajor_val_one, Shape.rowMajor_val_two]
  simp only [ix1, ix2, Matrix.cons_val_zero, Matrix.cons_val_one, Matrix.cons_val]
  omega

/-- The four words in a row, read as a square. -/
theorem words_at (x0 x1 x2 x3 : Vec Ideal S1 .i32) (hc) (h : S4.ShapeCasts S2x2) (i j : Fin 2) :
    shapeCast S2x2 (concatenate S4 0 [⟨S1, x0⟩, ⟨S1, x1⟩, ⟨S1, x2⟩, ⟨S1, x3⟩] hc) h (ix2 i j)
      = (if i = 0 then (if j = 0 then x0 (ix1 0) else x1 (ix1 0)) else (if j = 0 then x2 (ix1 0) else x3 (ix1 0))) := by
  fin_cases i <;> fin_cases j <;> pointwise

end Cert.KernelIdeal.Val
-- ==== Proof.Keys.lean ====
/- The two pairs of key words that the kernel's host line derives from the step counter. -/
module

public import proofs.«01_k».proof.Proof.Gen.KernelIdeal.Frame
public import Idealize.ShloMosaic.Lib.StableHlo.ReadAt
public import Idealize.ShloMosaic.Lib.Pipeline.ValueKit
public import proofs.«01_k».proof.Proof.Spec

@[expose] public section

set_option maxRecDepth 16384

noncomputable section

namespace Cert.KernelIdeal.Val

open Idealize.ShloMosaic Idealize.ShloMosaic.TcCoe Cert.Spec Cert.KernelIdeal.Gen
open Idealize.ShloMosaic.StableHlo (after upto)

/-- The host line from its operation `a` to its operation `b`. -/
abbrev part (a b : Nat) : List (HloOp τ sig (Elt Ideal)) := (hostOps0.take b).drop a

variable (V : Valuation τ sig (Elt Ideal))

/-- The contents after the first `n` operations of the host line. -/
abbrev at0 (n : Nat) : Valuation τ sig (Elt Ideal) := upto hostOps0 V n

theorem take_split {α : Type*} (l : List α) (a b : Nat) (h : a ≤ b) : l.take b = l.take a ++ (l.take b).drop a := by
  conv_lhs => rw [← List.take_append_drop a (l.take b), List.take_take, Nat.min_eq_left h]

theorem at0_step (a b : Nat) (h : a ≤ b) : at0 V b = after (part a b) (at0 V a) := by
  unfold at0 upto part
  rw [← StableHlo.after_append, ← take_split _ a b h]

theorem hash0_0 (j : S1.Idx) : (at0 V 61 (Proc.devRef .tc main_v39) j, at0 V 61 (Proc.devRef .tc main_v43) j)
    = J 42#32 (broadcastInDim S1 ![] bcast_S_S1 (at0 V 17 (Proc.devRef .tc main_v5)) j) 1#32 (G1 gK (at0 V 17 (Proc.devRef .tc main_v7) j, at0 V 17 (Proc.devRef .tc main_v9) j)) := by
  rw [at0_step V 17 61 (by decide)]
  generalize at0 V 17 = U
  after_reads_simp
  rfl

theorem hash0_1 (j : S1.Idx) : (at0 V 105 (Proc.devRef .tc main_v73) j, at0 V 105 (Proc.devRef .tc main_v77) j)
    = J (broadcastInDim S1 ![] bcast_S_S1 (at0 V 61 (Proc.devRef .tc main_v5)) j) 0#32 2#32 (G2 gK (at0 V 61 (Proc.devRef .tc main_v39) j, at0 V 61 (Proc.devRef .tc main_v43) j)) := by
  rw [at0_step V 61 105 (by decide)]
  generalize at0 V 61 = U
  after_reads_simp
  rfl

theorem hash0_2 (j : S1.Idx) : (at0 V 150 (Proc.devRef .tc main_v107) j, at0 V 150 (Proc.devRef .tc main_v111) j)
    = J 0#32 42#32 3#32 (G1 gK (at0 V 105 (Proc.devRef .tc main_v73) j, at0 V 105 (Proc.devRef .tc main_v77) j)) := by
  rw [at0_step V 105 150 (by decide)]
  generalize at0 V 105 = U
  after_reads_simp
  rfl

theorem hash0_3 (j : S1.Idx) : (at0 V 194 (Proc.devRef .tc main_v141) j, at0 V 194 (Proc.devRef .tc main_v145) j)
    = J 42#32 (broadcastInDim S1 ![] bcast_S_S1 (at0 V 150 (Proc.devRef .tc main_v5)) j) 4#32 (G2 gK (at0 V 150 (Proc.devRef .tc main_v107) j, at0 V 150 (Proc.devRef .tc main_v111) j)) := by
  rw [at0_step V 150 194 (by decide)]
  generalize at0 V 150 = U
  after_reads_simp
  rfl

theorem hash0_4 (j : S1.Idx) : (at0 V 238 (Proc.devRef .tc main_v175) j, at0 V 238 (Proc.devRef .tc main_v179) j)
    = J (broadcastInDim S1 ![] bcast_S_S1 (at0 V 194 (Proc.devRef .tc main_v5)) j) 0#32 5#32 (G1 gK (at0 V 194 (Proc.devRef .tc main_v141) j, at0 V 194 (Proc.devRef .tc main_v145) j)) := by
  rw [at0_step V 194 238 (by decide)]
  generalize at0 V 194 = U
  after_reads_simp
  rfl

theorem hash1_0 (j : S1.Idx) : (at0 V 293 (Proc.devRef .tc main_v215) j, at0 V 293 (Proc.devRef .tc main_v219) j)
    = J 7#32 (broadcastInDim S1 ![] bcast_S_S1 (at0 V 249 (Proc.devRef .tc main_v181)) j) 1#32 (G1 gK (at0 V 249 (Proc.devRef .tc main_v183) j, at0 V 249 (Proc.devRef .tc main_v185) j)) := by
  rw [at0_step V 249 293 (by decide)]
  generalize at0 V 249 = U
  after_reads_simp
  rfl

theorem hash1_1 (j : S1.Idx) : (at0 V 337 (Proc.devRef .tc main_v249) j, at0 V 337 (Proc.devRef .tc main_v253) j)
    = J (broadcastInDim S1 ![] bcast_S_S1 (at0 V 293 (Proc.devRef .tc main_v181)) j) 0#32 2#32 (G2 gK (at0 V 293 (Proc.devRef .tc main_v215) j, at0 V 293 (Proc.devRef .tc main_v219) j)) := by
  rw [at0_step V 293 337 (by decide)]
  generalize at0 V 293 = U
  after_reads_simp
  rfl

theorem hash1_2 (j : S1.Idx) : (at0 V 382 (Proc.devRef .tc main_v283) j, at0 V 382 (Proc.devRef .tc main_v287) j)
    = J 0#32 7#32 3#32 (G1 gK (at0 V 337 (Proc.devRef .tc main_v249) j, at0 V 337 (Proc.devRef .tc main_v253) j)) := by
  rw [at0_step V 337 382 (by decide)]
  generalize at0 V 337 = U
  after_reads_simp
  rfl

theorem hash1_3 (j : S1.Idx) : (at0 V 426 (Proc.devRef .tc main_v317) j, at0 V 426 (Proc.devRef .tc main_v321) j)
    = J 7#32 (broadcastInDim S1 ![] bcast_S_S1 (at0 V 382 (Proc.devRef .tc main_v181)) j) 4#32 (G2 gK (at0 V 382 (Proc.devRef .tc main_v283) j, at0 V 382 (Proc.devRef .tc main_v287) j)) := by
  rw [at0_step V 382 426 (by decide)]
  generalize at0 V 382 = U
  after_reads_simp
  rfl

theorem hash1_4 (j : S1.Idx) : (at0 V 470 (Proc.devRef .tc main_v351) j, at0 V 470 (Proc.devRef .tc main_v355) j)
    = J (broadcastInDim S1 ![] bcast_S_S1 (at0 V 426 (Proc.devRef .tc main_v181)) j) 0#32 5#32 (G1 gK (at0 V 426 (Proc.devRef .tc main_v317) j, at0 V 426 (Proc.devRef .tc main_v321) j)) := by
  rw [at0_step V 426 470 (by decide)]
  generalize at0 V 426 = U
  after_reads_simp
  rfl

/-- The step counter of the draws: one more than the launch's. -/
abbrev t1 : W := IntOp.addi (V (Proc.devRef .tc main_arg9) ix0) 1#32

theorem cast_one {α : Type} (x : S_.Idx → α) (h : S_.numel = S1.numel) (j : S1.Idx) : shapeCast S1 x h j = x ix0 := congrArg x (ValueIdx.eq_ix0 _)

theorem spread1 {α : Type} (x : S_.Idx → α) (h : S_.BroadcastsInDim S1 ![]) (j : S1.Idx) : broadcastInDim S1 ![] h x j = x ix0 :=
  congrArg x (ValueIdx.eq_ix0 _)

theorem start0 (j : S1.Idx) : (at0 V 17 (Proc.devRef .tc main_v7) j, at0 V 17 (Proc.devRef .tc main_v9) j)
    = (IntOp.addi 0#32 0#32, IntOp.addi (t1 V) 42#32) := by
  after_reads_simp
  refine congrArg₂ Prod.mk rfl (congrArg₂ IntOp.addi ?_ rfl)
  exact cast_one _ _ _

theorem start1 (j : S1.Idx) : (at0 V 249 (Proc.devRef .tc main_v183) j, at0 V 249 (Proc.devRef .tc main_v185) j)
    = (IntOp.addi 0#32 0#32, IntOp.addi (t1 V) 7#32) := by
  after_reads_simp
  refine congrArg₂ Prod.mk rfl (congrArg₂ IntOp.addi ?_ rfl)
  exact cast_one _ _ _

theorem third0 (n : Nat) (hn : n ∈ [17, 61, 150, 194]) : at0 V n (Proc.devRef .tc main_v5) ix0 = ks2 0#32 42#32 := by
  fin_cases hn <;> after_reads_simp <;> rfl

theorem third1 (n : Nat) (hn : n ∈ [249, 293, 382, 426]) : at0 V n (Proc.devRef .tc main_v181) ix0 = ks2 0#32 7#32 := by
  fin_cases hn <;> after_reads_simp <;> rfl

theorem fourth0 (n : Nat) (hn : n ∈ [17, 61, 150, 194]) (j : S1.Idx) :
    broadcastInDim S1 ![] bcast_S_S1 (at0 V n (Proc.devRef .tc main_v5)) j = ks2 0#32 42#32 :=
  (spread1 _ _ _).trans (third0 V n hn)

theorem keys0 (j : S1.Idx) : (at0 V 238 (Proc.devRef .tc main_v175) j, at0 V 238 (Proc.devRef .tc main_v179) j)
    = tf gK 0#32 42#32 0#32 (t1 V) := by
  rw [hash0_4, hash0_3, hash0_2, hash0_1, hash0_0, start0]
  rw [fourth0 V 17 (by decide), fourth0 V 61 (by decide), fourth0 V 150 (by decide), fourth0 V 194 (by decide)]
  rfl

theorem fourth1 (n : Nat) (hn : n ∈ [249, 293, 382, 426]) (j : S1.Idx) :
    broadcastInDim S1 ![] bcast_S_S1 (at0 V n (Proc.devRef .tc main_v181)) j = ks2 0#32 7#32 :=
  (spread1 _ _ _).trans (third1 V n hn)

theorem keys1 (j : S1.Idx) : (at0 V 470 (Proc.devRef .tc main_v351) j, at0 V 470 (Proc.devRef .tc main_v355) j)
    = tf gK 0#32 7#32 0#32 (t1 V) := by
  rw [hash1_4, hash1_3, hash1_2, hash1_1, hash1_0, start1]
  rw [fourth1 V 249 (by decide), fourth1 V 293 (by decide), fourth1 V 382 (by decide), fourth1 V 426 (by decide)]
  rfl

theorem kept0 : at0 V 470 (Proc.devRef .tc main_v175) = at0 V 238 (Proc.devRef .tc main_v175)
    ∧ at0 V 470 (Proc.devRef .tc main_v179) = at0 V 238 (Proc.devRef .tc main_v179) := by
  rw [at0_step V 238 470 (by decide)]
  generalize at0 V 238 = U
  constructor <;> after_reads_simp

theorem line_end : after hostOps0 V = after (hostOps0.drop 470) (at0 V 470) := by
  unfold at0 upto
  rw [← StableHlo.after_append, List.take_append_drop]

theorem line_keys : after hostOps0 V (Proc.devRef .tc main_v357) = shapeCast S2x2 (concatenate S4 0
    [⟨S1, at0 V 238 (Proc.devRef .tc main_v175)⟩, ⟨S1, at0 V 238 (Proc.devRef .tc main_v179)⟩,
      ⟨S1, at0 V 470 (Proc.devRef .tc main_v351)⟩, ⟨S1, at0 V 470 (Proc.devRef .tc main_v355)⟩]
    concatenates_S1_S1_S1_S1_S4_d0) shapeCasts_S4_S2x2 := by
  rw [← (kept0 V).1, ← (kept0 V).2, line_end]
  generalize at0 V 470 = U
  after_reads_simp
  rfl

theorem line_state : after hostOps0 V (Proc.devRef .tc main_v358) = shapeCast S1x2 (V (Proc.devRef .tc main_arg4)) shapeCasts_S2_S1x2 := by
  after_reads_simp
  rfl
theorem line_bias1 : after hostOps0 V (Proc.devRef .tc main_v359) = shapeCast S4x1 (V (Proc.devRef .tc main_arg6)) shapeCasts_S4_S4x1 := by
  after_reads_simp
  rfl
theorem line_bias2 : after hostOps0 V (Proc.devRef .tc main_v360) = shapeCast S4x1 (V (Proc.devRef .tc main_arg8)) shapeCasts_S4_S4x1 := by
  after_reads_simp
  rfl

end Cert.KernelIdeal.Val
-- ==== Proof.RefBits.lean ====
/- The reference's four hashes, read as threefry: two scalar keys, then the bits of the uniform numbers. -/
module

public import proofs.«01_k».proof.Proof.Gen.ReferenceIdeal.Run
public import Idealize.ShloMosaic.Lib.Pipeline.ValueKit
public import Idealize.ShloMosaic.Lib.Tactic.CleanTypes
public import proofs.«01_k».proof.Proof.Block

@[expose] public section

set_option maxRecDepth 16384

noncomputable section

namespace Cert.Spec

open Idealize.ShloMosaic

/-- An odd group after its first addition. -/
def T1 (g : Step) (p : W × W) : W × W := R g 6#32 26#32 (A (R g 26#32 6#32 (A (R g 15#32 17#32 (A (R g 13#32 19#32 p))))))
/-- An even group after its first addition. -/
def T2 (g : Step) (p : W × W) : W × W := R g 24#32 8#32 (A (R g 16#32 16#32 (A (R g 29#32 3#32 (A (R g 17#32 15#32 p))))))

theorem tf_T (g : Step) (k0 k1 x0 x1 : W) : tf g k0 k1 x0 x1
    = J (ks2 k0 k1) k0 5#32 (T1 g (A (J k1 (ks2 k0 k1) 4#32 (T2 g (A (J k0 k1 3#32 (T1 g (A (J (ks2 k0 k1) k0 2#32 (T2 g (A
        (J k1 (ks2 k0 k1) 1#32 (T1 g (A (IntOp.addi x0 k0, IntOp.addi x1 k1))))))))))))))) := rfl

/-- The five groups, chained. -/
theorem tf_of (g : Step) {k0 k1 x0 x1 k2 : W} {p0 p1 p2 p3 p4 p5 : W × W} (hk : k2 = ks2 k0 k1)
    (h0 : p0 = A (IntOp.addi x0 k0, IntOp.addi x1 k1)) (h1 : p1 = A (J k1 k2 1#32 (T1 g p0))) (h2 : p2 = A (J k2 k0 2#32 (T2 g p1)))
    (h3 : p3 = A (J k0 k1 3#32 (T1 g p2))) (h4 : p4 = A (J k1 k2 4#32 (T2 g p3))) (h5 : p5 = J k2 k0 5#32 (T1 g p4)) :
    p5 = tf g k0 k1 x0 x1 := by
  rw [tf_T, h5, h4, h3, h2, h1, h0, hk]

end Cert.Spec

namespace Cert.ReferenceIdeal.Val

open Idealize.ShloMosaic Cert.Spec Cert.ReferenceIdeal.Gen Cert.ReferenceIdeal.Value

variable (V0 : Valuation τ sig (Elt Ideal))

/-- The step counter, as the hashes take it. -/
abbrev tt : W := res_main_v0 V0 ix0
/-- The key of the categories. -/
abbrev za : W := res_main_v128 V0 ix0
abbrev zb : W := res_main_v130 V0 ix0
/-- The key of the deviates. -/
abbrev ea : W := res_main_v468 V0 ix0
abbrev eb : W := res_main_v470 V0 ix0

theorem key_z : (za V0, zb V0) = tf gH 0#32 42#32 0#32 (tt V0) :=
  tf_of gH (k2 := 466689008#32) (p0 := (res_main_v16 V0 ix0, res_main_v15 V0 ix0)) (p1 := (res_main_v39 V0 ix0, res_main_v38 V0 ix0))
    (p2 := (res_main_v62 V0 ix0, res_main_v61 V0 ix0)) (p3 := (res_main_v85 V0 ix0, res_main_v84 V0 ix0))
    (p4 := (res_main_v108 V0 ix0, res_main_v107 V0 ix0)) (by decide) rfl rfl rfl rfl rfl rfl

theorem key_e : (ea V0, eb V0) = tf gH 0#32 7#32 0#32 (tt V0) :=
  tf_of gH (k2 := 466688989#32) (p0 := (res_main_v356 V0 ix0, res_main_v355 V0 ix0)) (p1 := (res_main_v379 V0 ix0, res_main_v378 V0 ix0))
    (p2 := (res_main_v402 V0 ix0, res_main_v401 V0 ix0)) (p3 := (res_main_v425 V0 ix0, res_main_v424 V0 ix0))
    (p4 := (res_main_v448 V0 ix0, res_main_v447 V0 ix0)) (by decide) rfl rfl rfl rfl rfl rfl

/-- A scalar spread over an array. -/
theorem spread {α : Type} {s : Shape} (x : S_.Idx → α) (h : S_.BroadcastsInDim s ![]) (j : s.Idx) : broadcastInDim s ![] h x j = x ix0 :=
  congrArg x (ValueIdx.eq_ix0 _)

/-- The counter of the categories' numbers: the row-major position. -/
theorem count_z (n : Fin 1000000) (k : Fin 4) :
    shapeCast S1000000x4 (iotaInDim S4000000 32 0) shapeCasts_S4000000_S1000000x4 (ix2 n k) = BitVec.ofNat 32 (4 * n.val + k.val) := by
  rw [shapeCast_apply (iotaInDim S4000000 32 0) shapeCasts_S4000000_S1000000x4 (ix2 n k) (ix1 ⟨4 * n.val + k.val, by omega⟩)]
  · rfl
  · rw [Shape.rowMajor_val_one, Shape.rowMajor_val_two]
    show 4 * n.val + k.val = n.val * 4 + k.val
    omega

/-- The counter of the deviates' numbers: the row-major position. -/
theorem count_e (n : Fin 1000000) (d : Fin 2) :
    shapeCast S1000000x2 (iotaInDim S2000000 32 0) shapeCasts_S2000000_S1000000x2 (ix2 n d) = BitVec.ofNat 32 (2 * n.val + d.val) := by
  rw [shapeCast_apply (iotaInDim S2000000 32 0) shapeCasts_S2000000_S1000000x2 (ix2 n d) (ix1 ⟨2 * n.val + d.val, by omega⟩)]
  · rfl
  · rw [Shape.rowMajor_val_one, Shape.rowMajor_val_two]
    show 2 * n.val + d.val = n.val * 2 + d.val
    omega

/-- A key word spread over the categories' numbers, and over the deviates'. -/
abbrev b4 (x : IVec S_ 32) : IVec S1000000x4 32 := broadcastInDim S1000000x4 ![] bcast_S_S1000000x4 x
abbrev b2 (x : IVec S_ 32) : IVec S1000000x2 32 := broadcastInDim S1000000x2 ![] bcast_S_S1000000x2 x

theorem b4_at (x : IVec S_ 32) (j : S1000000x4.Idx) : b4 x j = x ix0 := spread x _ j
theorem b2_at (x : IVec S_ 32) (j : S1000000x2.Idx) : b2 x j = x ix0 := spread x _ j

/-- The last words of a hash after four groups. -/
def last (a k : W) (p : W × W) : W := mix (J k a 5#32 (R gH 6#32 26#32 p))

theorem bits_z (j : S1000000x4.Idx) :
    last (b4 (res_main_v128 V0) j) (b4 (res_main_v135 V0) j) (res_main_v297 V0 j, res_main_v296 V0 j)
      = mix (tf gH (b4 (res_main_v128 V0) j) (b4 (res_main_v130 V0) j) 0#32
          (shapeCast S1000000x4 (iotaInDim S4000000 32 0) shapeCasts_S4000000_S1000000x4 j)) :=
  congrArg mix (tf_of gH (k2 := b4 (res_main_v135 V0) j) (p0 := (res_main_v140 V0 j, res_main_v139 V0 j)) (p1 := (res_main_v174 V0 j, res_main_v173 V0 j))
    (p2 := (res_main_v208 V0 j, res_main_v207 V0 j)) (p3 := (res_main_v242 V0 j, res_main_v241 V0 j))
    (p4 := (res_main_v276 V0 j, res_main_v275 V0 j)) rfl rfl rfl rfl rfl rfl rfl)

theorem bits_e (j : S1000000x2.Idx) :
    last (b2 (res_main_v468 V0) j) (b2 (res_main_v475 V0) j) (res_main_v637 V0 j, res_main_v636 V0 j)
      = mix (tf gH (b2 (res_main_v468 V0) j) (b2 (res_main_v470 V0) j) 0#32
          (shapeCast S1000000x2 (iotaInDim S2000000 32 0) shapeCasts_S2000000_S1000000x2 j)) :=
  congrArg mix (tf_of gH (k2 := b2 (res_main_v475 V0) j) (p0 := (res_main_v480 V0 j, res_main_v479 V0 j)) (p1 := (res_main_v514 V0 j, res_main_v513 V0 j))
    (p2 := (res_main_v548 V0 j, res_main_v547 V0 j)) (p3 := (res_main_v582 V0 j, res_main_v581 V0 j))
    (p4 := (res_main_v616 V0 j, res_main_v615 V0 j)) rfl rfl rfl rfl rfl rfl rfl)

/-- The log-probabilities, as the scores use them. -/
def logp : FVec Ideal S4 .f32 := subf (res_main_call0_v4 V0) (broadcastInDim S4 ![0] bcast_S1_S4_0 (Host.log (broadcastInDim S1 ![] bcast_S_S1
  (Host.reduceAdd (Host.exp (res_main_call0_v4 V0)) (constant S_ .f32 0x00000000#32) reducesTo_S4_S_d0 h_S_))))

/-- The mixed words of a hash whose last rotation and injection are still to do, element by element. -/
theorem last_at {s : Shape} (x y a k c5 c6 c26 : IVec s 32) (j : s.Idx) :
    xori (addi x k) (addi (addi (xori x (ori (Host.shli y c6) (Host.shrui y c26))) a) c5) j
      = mix (J (k j) (a j) (c5 j) (R gH (c6 j) (c26 j) (x j, y j))) := rfl

/-- The uniform number of a word, over any constants. -/
theorem unit_at {s : Shape} (u c9 ce : IVec s 32) (o : FVec Ideal s .f32) (j : s.Idx) :
    subf (bitcastToFloat (F := Ideal) .f32 (ori (Host.shrui u c9) ce)) o j
      = C (IntOp.ori (IntOp.shrui .host (u j) (c9 j)) (ce j)) - o j := rfl

theorem gum_at {s : Shape} (x y : FVec Ideal s .f32) (l : FVec Ideal s .f32) (j : s.Idx) :
    addf (Host.negf (Host.log (Host.negf (Host.log (maximumf x y))))) l j = gum (max (x j) (y j)) + l j := rfl

theorem sym_any {s : Shape} (x y z w : FVec Ideal s .f32) (j : s.Idx) :
    maximumf (addf (mulf x y) z) w j = max (x j * y j + z j) (w j) := rfl

/-- A constant's one element. -/
theorem const_at (b : W) (j : S_.Idx) : constant (F := Ideal) S_ .f32 b j = C b := rfl
theorem word_at (b : W) (j : S_.Idx) : constantI S_ 32 b j = b := rfl

theorem score_last (j : S1000000x4.Idx) : res_main_v324 V0 j
    = gum (pos .host (last (b4 (res_main_v128 V0) j) (b4 (res_main_v135 V0) j) (res_main_v297 V0 j, res_main_v296 V0 j)))
      + broadcastInDim S1000000x4 ![1] bcast_S4_S1000000x4_1 (logp V0) j := by
  unfold res_main_v324
  refine (gum_at _ _ _ j).trans (congrArg₂ (· + ·) (congrArg gum (congrArg₂ max ((unit_at _ _ _ _ j).trans ?_) ?_)) rfl)
  · unfold unit last
    refine congrArg₂ (· - ·) (congrArg C ?_) ?_
    · refine congrArg₂ IntOp.ori (congrArg₂ (IntOp.shrui .host) (last_at _ _ _ _ _ _ _ j) ?_) ?_
      · exact spread _ _ _
      · exact spread _ _ _
    · exact spread _ _ _
  · exact spread _ _ _

theorem sym_last (j : S1000000x2.Idx) : res_main_v663 V0 j
    = sym .host (last (b2 (res_main_v468 V0) j) (b2 (res_main_v475 V0) j) (res_main_v637 V0 j, res_main_v636 V0 j)) := by
  unfold res_main_v663
  refine (sym_any _ _ _ _ j).trans (congrArg₂ max (congrArg₂ (· + ·) (congrArg₂ (· * ·) ((unit_at _ _ _ _ j).trans ?_) ?_) ?_) ?_)
  · unfold unit last
    refine congrArg₂ (· - ·) (congrArg C ?_) ?_
    · refine congrArg₂ IntOp.ori (congrArg₂ (IntOp.shrui .host) (last_at _ _ _ _ _ _ _ j) ?_) ?_
      · exact spread _ _ _
      · exact spread _ _ _
    · exact spread _ _ _
  · exact spread _ _ _
  · exact spread _ _ _
  · exact spread _ _ _

/-- The score of a category: its Gumbel noise and its log-probability. -/
theorem score_at (n : Fin 1000000) (k : Fin 4) :
    res_main_v324 V0 (ix2 n k) = draw (za V0) (zb V0) (4 * n.val + k.val) + logp V0 (ix1 k) := by
  rw [score_last, bits_z, count_z]
  have h : broadcastInDim S1000000x4 ![1] bcast_S4_S1000000x4_1 (logp V0) (ix2 n k) = logp V0 (ix1 k) := by pointwise
  rw [h, b4_at, b4_at]
  rfl

/-- The uniform number under a deviate. -/
theorem sym_at (n : Fin 1000000) (d : Fin 2) :
    res_main_v663 V0 (ix2 n d) = sym .host (mix (tf gH (ea V0) (eb V0) 0#32 (BitVec.ofNat 32 (2 * n.val + d.val)))) := by
  rw [sym_last, bits_e, count_e, b2_at, b2_at]

end Cert.ReferenceIdeal.Val
-- ==== Proof.Take.lean ====
/- The reference's reads of an array at the drawn category, and of a matrix's diagonal. -/
module

public import proofs.«01_k».proof.Proof.Gen.ReferenceIdeal.Run
public import Idealize.ShloMosaic.Lib.Pipeline.ValueKit
public import Idealize.ShloMosaic.Lib.Tactic.CleanTypes

@[expose] public section

set_option maxRecDepth 16384

noncomputable section

namespace Cert.ReferenceIdeal.Val

open Idealize.ShloMosaic Cert.ReferenceIdeal.Gen Cert.ReferenceIdeal.Value

/-- The pair of a particle at a category. -/
theorem take_pair {α : Type} (x : S1000000x4x2.Idx → α) (iv : IVec S1000000x1x1 32) (n : Fin 1000000) (d : Fin 2) (z : Fin 4)
    (hz : (iv (ix3 n 0 0)).toInt.toNat = z.val) :
    Host.gather gather_S1000000x4x2_S1000000x1x1_S1000000x1x2_2_1_0_0_1_2_112 x iv (ix3 n 0 d) = x (ix3 n z d) := by
  unfold Host.gather
  refine congrArg x (funext fun a => Fin.ext ?_)
  show GatherDims.start _ _ _ a + GatherDims.batchCoord _ _ a + GatherDims.offCoord _ _ a = _
  have h : a = 0 ∨ a = 1 ∨ a = 2 := by fin_cases a <;> simp
  rcases h with rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (by decide), show GatherDims.siIdx _ _ _ = (ix3 n 0 0) from funext fun b => Fin.ext (by fin_cases b <;> rfl), hz]
    exact Nat.min_eq_left (show z.val ≤ 3 by omega)
  · unfold GatherDims.start
    rw [dif_neg (by decide), GatherDims.batchCoord_eq_zero _ _ _ (by decide)]
    simp only [Nat.zero_add]
    unfold GatherDims.offCoord
    rw [dif_pos ((GatherDims.mem_sKept _ _).2 (by decide))]
    rfl

/-- The square of a particle at a category. -/
theorem take_square {α : Type} (x : S1000000x4x2x2.Idx → α) (iv : IVec S1000000x1x1 32) (n : Fin 1000000) (i j : Fin 2) (z : Fin 4)
    (hz : (iv (ix3 n 0 0)).toInt.toNat = z.val) :
    Host.gather gather_S1000000x4x2x2_S1000000x1x1_S1000000x1x2x2_23_1_0_0_1_2_1122 x iv (ix4 n 0 i j) = x (ix4 n z i j) := by
  unfold Host.gather
  refine congrArg x (funext fun a => Fin.ext ?_)
  show GatherDims.start _ _ _ a + GatherDims.batchCoord _ _ a + GatherDims.offCoord _ _ a = _
  have h : a = 0 ∨ a = 1 ∨ a = 2 ∨ a = 3 := by fin_cases a <;> simp
  rcases h with rfl | rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (by decide), show GatherDims.siIdx _ _ _ = (ix3 n 0 0) from funext fun b => Fin.ext (by fin_cases b <;> rfl), hz]
    exact Nat.min_eq_left (show z.val ≤ 3 by omega)
  · unfold GatherDims.start
    rw [dif_neg (by decide), GatherDims.batchCoord_eq_zero _ _ _ (by decide)]
    simp only [Nat.zero_add]
    unfold GatherDims.offCoord
    rw [dif_pos ((GatherDims.mem_sKept _ _).2 (by decide))]
    rfl
  · unfold GatherDims.start
    rw [dif_neg (by decide), GatherDims.batchCoord_eq_zero _ _ _ (by decide)]
    simp only [Nat.zero_add]
    unfold GatherDims.offCoord
    rw [dif_pos ((GatherDims.mem_sKept _ _).2 (by decide))]
    rfl

/-- An element of the diagonal. -/
theorem take_diag {α : Type} (x : S1000000x2x2.Idx → α) (iv : IVec S2x2 32) (n : Fin 1000000) (i : Fin 2)
    (h0 : (iv (ix2 i 0)).toInt.toNat = i.val) (h1 : (iv (ix2 i 1)).toInt.toNat = i.val) :
    Host.gather gather_S1000000x2x2_S2x2_S1000000x2_0_12_n_n_12_1_100000011 x iv (ix2 n i) = x (ix3 n i i) := by
  unfold Host.gather
  refine congrArg x (funext fun a => Fin.ext ?_)
  show GatherDims.start _ _ _ a + GatherDims.batchCoord _ _ a + GatherDims.offCoord _ _ a = _
  have h : a = 0 ∨ a = 1 ∨ a = 2 := by fin_cases a <;> simp
  rcases h with rfl | rfl | rfl
  · unfold GatherDims.start
    rw [dif_neg (by decide), GatherDims.batchCoord_eq_zero _ _ _ (by decide)]
    simp only [Nat.zero_add]
    unfold GatherDims.offCoord
    rw [dif_pos ((GatherDims.mem_sKept _ _).2 (by decide))]
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (by decide), show GatherDims.siIdx _ _ _ = (ix2 i 0) from funext fun b => Fin.ext (by fin_cases b <;> rfl), h0]
    exact Nat.min_eq_left (show i.val ≤ 1 by omega)
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (by decide), show GatherDims.siIdx _ _ _ = (ix2 i 1) from funext fun b => Fin.ext (by fin_cases b <;> rfl), h1]
    exact Nat.min_eq_left (show i.val ≤ 1 by omega)

end Cert.ReferenceIdeal.Val
-- ==== Proof.RefVal.lean ====
/- The reference's category of a particle, and the arrays it reads at that category. -/
module

public import proofs.«01_k».proof.Proof.RefBits
public import proofs.«01_k».proof.Proof.Take

@[expose] public section

set_option maxRecDepth 16384

noncomputable section

namespace Cert.ReferenceIdeal.Val

open Idealize.ShloMosaic Cert.Spec Cert.ReferenceIdeal.Gen Cert.ReferenceIdeal.Value
open Cert.KernelIdeal.Val (tour tour_lt pick)

/-! ## The first of the best of four scores -/

theorem fold_four {α : Type} (f : α → α → α) [Std.Commutative f] [Std.Associative f] (b : α) (g : Fin 4 → α) :
    Finset.univ.fold f b g = f (g 0) (f (g 1) (f (g 2) (f (g 3) b))) := rfl

theorem bot_C : C 0xFF800000#32 = ⊥ := by
  simp [C, Ideal.ofBits, Ideal.ieee, -EReal.coe_mul]

theorem max_at (s : FVec Ideal S1000000x4 .f32) (n : Fin 1000000) :
    Host.reduce FloatOps.maximumf s (constant S_ .f32 0xFF800000#32) reducesTo_S1000000x4_S1000000_d1 h_S_ (ix1 n)
      = Finset.univ.fold max (C 0xFF800000#32) fun k : Fin 4 => s (ix2 n k) := by
  pointwise

theorem min_at (s : IVec S1000000x4 32) (n : Fin 1000000) :
    Host.reduce IntOp.minsi s (constantI S_ 32 2147483647#32) reducesTo_S1000000x4_S1000000_d1 h_S_ (ix1 n)
      = Finset.univ.fold IntOp.minsi 2147483647#32 fun k : Fin 4 => s (ix2 n k) := by
  pointwise

theorem mark_at (s : FVec Ideal S1000000x4 .f32) (M : FVec Ideal S1000000 .f32) (n : Fin 1000000) (k : Fin 4) :
    select (cmpf .oeq s (broadcastInDim S1000000x4 ![0, 1] bcast_S1000000x1_S1000000x4_0_1
        (broadcastInDim S1000000x1 ![0] bcast_S1000000_S1000000x1_0 M)))
      (broadcastInDim S1000000x4 ![1] bcast_S4_S1000000x4_1 (iotaInDim S4 32 0))
      (broadcastInDim S1000000x4 ![] bcast_S_S1000000x4 (id (constantI S_ 32 4#32))) (ix2 n k)
      = if s (ix2 n k) = M (ix1 n) then BitVec.ofNat 32 k.val else 4#32 := by
  pointwise
  rfl

/-- The least index of a largest of four is the tournament's winner. -/
theorem first_best (s : Fin 4 → EReal) :
    (Finset.univ.fold IntOp.minsi 2147483647#32 fun k : Fin 4 =>
        if s k = Finset.univ.fold max ⊥ s then BitVec.ofNat 32 k.val else 4#32) = tour (s 0) (s 1) (s 2) (s 3) := by
  rw [fold_four, fold_four]
  generalize s 0 = a
  generalize s 1 = b
  generalize s 2 = c
  generalize s 3 = d
  rw [max_bot_right, ← max_assoc]
  unfold tour
  rcases lt_or_ge a b with h | h <;> rcases lt_or_ge c d with h' | h'
  · rw [max_eq_right h.le, max_eq_right h'.le]
    rcases lt_or_ge b d with k | k
    · have e1 := (h.trans k).ne; have e2 := k.ne; have e3 := h'.ne
      simp [max_eq_right k.le, k, h', e1, e2, e3, IntOp.addi]
      decide
    · have e1 := h.ne
      simp only [max_eq_left k, if_neg (not_lt.2 k), h, e1, if_false, if_true]
      split_ifs <;> decide
  · rw [max_eq_right h.le, max_eq_left h']
    rcases lt_or_ge b c with k | k
    · have e1 := (h.trans k).ne; have e2 := k.ne
      simp only [max_eq_right k.le, if_pos k, not_lt.2 h', e1, e2, if_false, if_true]
      split_ifs <;> decide
    · have e1 := h.ne
      simp only [max_eq_left k, if_neg (not_lt.2 k), h, e1, if_false, if_true]
      split_ifs <;> decide
  · rw [max_eq_left h, max_eq_right h'.le]
    rcases lt_or_ge a d with k | k
    · have e1 := k.ne; have e2 := (h.trans_lt k).ne; have e3 := h'.ne
      simp [max_eq_right k.le, k, h', e1, e2, e3, IntOp.addi]
      decide
    · simp only [max_eq_left k, if_neg (not_lt.2 k), not_lt.2 h, if_true]
      split_ifs <;> decide
  · rw [max_eq_left h, max_eq_left h']
    rcases lt_or_ge a c with k | k
    · have e1 := k.ne; have e2 := (h.trans_lt k).ne
      simp only [max_eq_right k.le, if_pos k, not_lt.2 h', e1, e2, if_false, if_true]
      split_ifs <;> decide
    · simp only [max_eq_left k, if_neg (not_lt.2 k), not_lt.2 h, if_true]
      split_ifs <;> decide

variable (V0 : Valuation τ sig (Elt Ideal))

/-- The category the reference draws for particle `n`. -/
theorem best_at (n : Fin 1000000) : res_main_v331 V0 (ix1 n)
    = tour (res_main_v324 V0 (ix2 n 0)) (res_main_v324 V0 (ix2 n 1)) (res_main_v324 V0 (ix2 n 2)) (res_main_v324 V0 (ix2 n 3)) := by
  unfold res_main_v331
  refine (min_at _ n).trans (Eq.trans ?_ (first_best fun k => res_main_v324 V0 (ix2 n k)))
  refine congrArg (Finset.univ.fold IntOp.minsi 2147483647#32) (funext fun k => (mark_at _ _ n k).trans ?_)
  rw [max_at, bot_C]

/-! ## Reading an array at a category -/

theorem four (z : W) (h : z.toNat < 4) : z = 0#32 ∨ z = 1#32 ∨ z = 2#32 ∨ z = 3#32 := by
  have : z.toNat = 0 ∨ z.toNat = 1 ∨ z.toNat = 2 ∨ z.toNat = 3 := by omega
  rcases this with e | e | e | e
  · exact .inl (BitVec.eq_of_toNat_eq e)
  · exact .inr (.inl (BitVec.eq_of_toNat_eq e))
  · exact .inr (.inr (.inl (BitVec.eq_of_toNat_eq e)))
  · exact .inr (.inr (.inr (BitVec.eq_of_toNat_eq e)))

theorem wrap (z : W) (h : z.toNat < 4) : Scalar.select (IntOp.cmpi .slt z 0#32) (IntOp.addi z 4#32) z = z := by
  rcases four z h with rfl | rfl | rfl | rfl <;> rfl

theorem inside (z : W) (h : z.toNat < 4) : IntOp.andi (IntOp.cmpi .sge z 0#32) (IntOp.cmpi .sle z 3#32) = 1#1 := by
  rcases four z h with rfl | rfl | rfl | rfl <;> rfl

theorem signed (z : W) (h : z.toNat < 4) : z.toInt.toNat = z.toNat := by
  rcases four z h with rfl | rfl | rfl | rfl <;> rfl

/-- The bounds test of a category. -/
theorem bounds_at (iv : IVec S1000000x1x1 32) (n : Fin 1000000) (h : (iv (ix3 n 0 0)).toNat < 4) :
    Host.reduce IntOp.andi (andi (cmpi .sge iv (broadcastInDim S1000000x1x1 ![] bcast_S_S1000000x1x1 (constantI S_ 32 0#32)))
      (cmpi .sle iv (broadcastInDim S1000000x1x1 ![0, 1, 2] bcast_S1x1x1_S1000000x1x1_0_1_2
        (broadcastInDim S1x1x1 ![2] bcast_S1_S1x1x1_2 (constantI S1 32 3#32)))))
      (constantI S_ 1 1#1) reducesTo_S1000000x1x1_S1000000x1_d2 h_S_ (ix2 n 0) = 1#1 := by
  have hr : ∀ (x : IVec S1000000x1x1 1), Host.reduce IntOp.andi x (constantI S_ 1 1#1) reducesTo_S1000000x1x1_S1000000x1_d2 h_S_ (ix2 n 0)
      = IntOp.andi (x (ix3 n 0 0)) 1#1 := fun x => by
    pointwise
    rfl
  rw [hr]
  have hx := inside _ h
  refine congrArg (fun b => IntOp.andi b 1#1) (Eq.trans ?_ hx)
  rfl

/-- A pair read at a category. -/
theorem pair_at (x : FVec Ideal S1000000x4x2 .f32) (iv : IVec S1000000x1x1 32) (b : IVec S1000000x1 1) (y : FVec Ideal S1000000x1x2 .f32)
    (n : Fin 1000000) (d : Fin 2) (h : (iv (ix3 n 0 0)).toNat < 4) (hb : b (ix2 n 0) = 1#1) :
    shapeCast S1000000x2 (select (broadcastInDim S1000000x1x2 ![0, 1] bcast_S1000000x1_S1000000x1x2_0_1 b)
      (Host.gather gather_S1000000x4x2_S1000000x1x1_S1000000x1x2_2_1_0_0_1_2_112 x iv) y) shapeCasts_S1000000x1x2_S1000000x2 (ix2 n d)
      = x (ix3 n ⟨(iv (ix3 n 0 0)).toNat, h⟩ d) := by
  rw [← take_pair x iv n d ⟨_, h⟩ (signed _ h)]
  generalize Host.gather _ x iv = g
  pointwise [hb]

/-- A square read at a category. -/
theorem square_at (x : FVec Ideal S1000000x4x2x2 .f32) (iv : IVec S1000000x1x1 32) (b : IVec S1000000x1 1) (y : FVec Ideal S1000000x1x2x2 .f32)
    (n : Fin 1000000) (i j : Fin 2) (h : (iv (ix3 n 0 0)).toNat < 4) (hb : b (ix2 n 0) = 1#1) :
    shapeCast S1000000x2x2 (select (broadcastInDim S1000000x1x2x2 ![0, 1] bcast_S1000000x1_S1000000x1x2x2_0_1 b)
      (Host.gather gather_S1000000x4x2x2_S1000000x1x1_S1000000x1x2x2_23_1_0_0_1_2_1122 x iv) y) shapeCasts_S1000000x1x2x2_S1000000x2x2 (ix3 n i j)
      = x (ix4 n ⟨(iv (ix3 n 0 0)).toNat, h⟩ i j) := by
  rw [← take_square x iv n i j ⟨_, h⟩ (signed _ h)]
  generalize Host.gather _ x iv = g
  pointwise [hb]

theorem wrap3 (w : IVec S1000000 32) (n : Fin 1000000) (h : (w (ix1 n)).toNat < 4) :
    select (cmpi .slt (broadcastInDim S1000000x1x1 ![0] bcast_S1000000_S1000000x1x1_0 w)
        (broadcastInDim S1000000x1x1 ![] bcast_S_S1000000x1x1 (constantI S_ 32 0#32)))
      (addi (broadcastInDim S1000000x1x1 ![0] bcast_S1000000_S1000000x1x1_0 w) (broadcastInDim S1000000x1x1 ![] bcast_S_S1000000x1x1 (constantI S_ 32 4#32)))
      (broadcastInDim S1000000x1x1 ![0] bcast_S1000000_S1000000x1x1_0 w) (ix3 n 0 0) = w (ix1 n) := by
  have e : broadcastInDim S1000000x1x1 ![0] bcast_S1000000_S1000000x1x1_0 w (ix3 n 0 0) = w (ix1 n) := by pointwise
  generalize broadcastInDim S1000000x1x1 ![0] bcast_S1000000_S1000000x1x1_0 w = v at e
  rw [← e] at h ⊢
  exact wrap _ h

theorem wrap4 (w : IVec S1000000 32) (n : Fin 1000000) (h : (w (ix1 n)).toNat < 4) :
    shapeCast S1000000x1x1 (select (cmpi .slt (broadcastInDim S1000000x1x1x1 ![0] bcast_S1000000_S1000000x1x1x1_0 w)
        (broadcastInDim S1000000x1x1x1 ![] bcast_S_S1000000x1x1x1 (constantI S_ 32 0#32)))
      (addi (broadcastInDim S1000000x1x1x1 ![0] bcast_S1000000_S1000000x1x1x1_0 w) (broadcastInDim S1000000x1x1x1 ![] bcast_S_S1000000x1x1x1 (constantI S_ 32 4#32)))
      (broadcastInDim S1000000x1x1x1 ![0] bcast_S1000000_S1000000x1x1x1_0 w)) shapeCasts_S1000000x1x1x1_S1000000x1x1 (ix3 n 0 0) = w (ix1 n) := by
  have e : broadcastInDim S1000000x1x1x1 ![0] bcast_S1000000_S1000000x1x1x1_0 w (ix4 n 0 0 0) = w (ix1 n) := by pointwise
  have hc : ∀ y : IVec S1000000x1x1x1 32, shapeCast S1000000x1x1 y shapeCasts_S1000000x1x1x1_S1000000x1x1 (ix3 n 0 0) = y (ix4 n 0 0 0) := fun y => by
    pointwise
  rw [hc]
  generalize broadcastInDim S1000000x1x1x1 ![0] bcast_S1000000_S1000000x1x1x1_0 w = v at e
  rw [← e] at h ⊢
  exact wrap _ h

end Cert.ReferenceIdeal.Val
-- ==== Proof.RefOut.lean ====
/- The reference's two results, read at a particle. -/
module

public import proofs.«01_k».proof.Proof.RefVal

@[expose] public section

set_option maxRecDepth 16384

noncomputable section

namespace Cert.ReferenceIdeal.Val

open Idealize.ShloMosaic Cert.Spec Cert.ReferenceIdeal.Gen Cert.ReferenceIdeal.Value
open Cert.KernelIdeal.Val (tour tour_lt pick)
open scoped BigOperators

/-! ## The deviate -/

/-- A constant spread over the deviates. -/
abbrev sp (b : W) : FVec Ideal S1000000x2 .f32 := broadcastInDim S1000000x2 ![] bcast_S_S1000000x2 (constant S_ .f32 b)

theorem sp_at (b : W) (j : S1000000x2.Idx) : sp b j = C b := spread _ _ _

/-- One step of the polynomial with a coefficient per branch. -/
theorem step_at (m : IVec S1000000x2 1) (a b : W) (p w : FVec Ideal S1000000x2 .f32) (j : S1000000x2.Idx) :
    addf (select m (sp a) (sp b)) (mulf p w) j = Scalar.select (m j) (C a) (C b) + p j * w j := by
  rw [← sp_at a j, ← sp_at b j]
  rfl

theorem coef_at (m : IVec S1000000x2 1) (a b : W) (j : S1000000x2.Idx) :
    select m (sp a) (sp b) j = Scalar.select (m j) (C a) (C b) := by
  rw [← sp_at a j, ← sp_at b j]
  rfl

theorem two_branches (m : IVec S1000000x2 1) (w x : FVec Ideal S1000000x2 .f32) (j : S1000000x2.Idx) :
    (mulf (sp 0x3FB504F3#32) (mulf (addf (select m (sp 0x3FC02E2F#32) (sp 0x40354F7E#32)) (mulf (addf (select m (sp 0x3E7C8F63#32) (sp 0x3F8036DB#32)) (mulf (addf (select m (sp 0xBB88E4EF#32) (sp 0x3C1AA57E#32)) (mulf (addf (select m (sp 0xBAA45408#32) (sp 0xBBF9C5D7#32)) (mulf (addf (select m (sp 0x396532DB#32) (sp 0x3BBC127B#32)) (mulf (addf (select m (sp 0xB6935AC1#32) (sp 0xBB70BDE7#32)) (mulf (addf (select m (sp 0xB66C7357#32) (sp 0x3AB0DC72#32)) (mulf (addf (select m (sp 0x34B84B36#32) (sp 0x38D3B56B#32)) (mulf (select m (sp 0x32F16588#32) (sp 0xB951F09B#32)) w)) w)) w)) w)) w)) w)) w)) w)) x)) j
      = C 0x3FB504F3#32 * ((if m j = 1 then central (w j) else tail (w j)) * x j) := by
  refine congrArg₂ (· * ·) (sp_at _ j) (congrArg₂ (· * ·) ?_ rfl)
  refine (step_at _ _ _ _ _ j).trans ?_
  rw [step_at, step_at, step_at, step_at, step_at, step_at, step_at]
  rw [coef_at]
  rcases BitVec.eq_zero_or_eq_one (m j) with h | h <;> rw [h] <;> rfl

/-- The reference's deviate of a uniform number. -/
def epsH (x : EReal) : EReal :=
  C 0x3FB504F3#32 * ((if Ideal.cmp .olt (-Ideal.log1p (-x * x)) (C 0x40A00000#32) = 1 then central (-Ideal.log1p (-x * x) - C 0x40200000#32)
    else tail (Ideal.sqrt (-Ideal.log1p (-x * x)) - C 0x40400000#32)) * x)

theorem tiny_le : C 0x0DA24260#32 ≤ C 0x40A00000#32 := by
  simp [C, Ideal.ofBits, Ideal.ieee, -EReal.coe_mul]
  norm_num

theorem olt_zero (a b : EReal) (h : Ideal.cmp .olt a b ≠ 1) : b ≤ a := by
  by_contra hn
  exact h (by simp [Ideal.cmp, not_le.1 hn])

/-- The two programs' deviates agree: off the central branch the argument is at least five. -/
theorem epsH_eq (x : EReal) : epsH x = epsK x := by
  unfold epsH epsK wK
  rw [zero_sub_C, zero_sub_C]
  generalize -Ideal.log1p (-x * x) = w
  by_cases h : Ideal.cmp .olt w (C 0x40A00000#32) = 1
  · rw [if_pos h, if_pos h]
  · rw [if_neg h, if_neg h, max_eq_left (tiny_le.trans (olt_zero _ _ h))]

/-! ## The lower-triangular factor -/

theorem below (i j : Fin 2) :
    (cmpi .sge (addi (iotaInDim S2x2 32 0) (broadcastInDim S2x2 ![] bcast_S_S2x2 (constantI S_ 32 4294967295#32))) (iotaInDim S2x2 32 1)) (ix2 i j) = if j < i then 1#1 else 0#1 := by
  fin_cases i <;> fin_cases j <;> rfl

theorem diagonal (i j : Fin 2) :
    (cmpi .eq (addi (iotaInDim S2x2 32 0) (broadcastInDim S2x2 ![] bcast_S_S2x2 (constantI S_ 32 0#32))) (iotaInDim S2x2 32 1)) (ix2 i j) = if i = j then 1#1 else 0#1 := by
  fin_cases i <;> fin_cases j <;> rfl

theorem entry_at (c e : IVec S2x2 1) (v z : FVec Ideal S1000000x2x2 .f32) (g : FVec Ideal S1000000x2 .f32) (n : Fin 1000000) (i j : Fin 2) :
    (addf (select (broadcastInDim S1000000x2x2 ![1, 2] bcast_S2x2_S1000000x2x2_1_2 c) v z) (mulf (broadcastInDim S1000000x2x2 ![0, 1, 2] bcast_S1000000x2x1_S1000000x2x2_0_1_2 (broadcastInDim S1000000x2x1 ![0, 1] bcast_S1000000x2_S1000000x2x1_0_1 (Host.exp g))) (broadcastInDim S1000000x2x2 ![0, 1, 2] bcast_S1x2x2_S1000000x2x2_0_1_2 (broadcastInDim S1x2x2 ![1, 2] bcast_S2x2_S1x2x2_1_2 (uitofp .f32 e))))) (ix3 n i j)
      = Scalar.select (c (ix2 i j)) (v (ix3 n i j)) (z (ix3 n i j)) + Ideal.exp (g (ix2 n i)) * (((e (ix2 i j)).toNat : ℝ) : EReal) := by
  pointwise
  rfl

theorem where_at (i k : Fin 2) :
    (concatenate S2x2 1 [⟨S2x1, (broadcastInDim S2x1 ![0] bcast_S2_S2x1_0 (select (cmpi .slt (iotaInDim S2 32 0) (broadcastInDim S2 ![] bcast_S_S2 (constantI S_ 32 0#32))) (addi (iotaInDim S2 32 0) (broadcastInDim S2 ![] bcast_S_S2 (constantI S_ 32 2#32))) (iotaInDim S2 32 0)))⟩, ⟨S2x1, (broadcastInDim S2x1 ![0] bcast_S2_S2x1_0 (select (cmpi .slt (iotaInDim S2 32 0) (broadcastInDim S2 ![] bcast_S_S2 (constantI S_ 32 0#32))) (addi (iotaInDim S2 32 0) (broadcastInDim S2 ![] bcast_S_S2 (constantI S_ 32 2#32))) (iotaInDim S2 32 0)))⟩] concatenates_S2x1_S2x1_S2x2_d1) (ix2 i k) = BitVec.ofNat 32 i.val := by
  fin_cases i <;> fin_cases k <;> rfl

theorem product_at (x : FVec Ideal S1000000x2x2 .f32) (y : FVec Ideal S1000000x2 .f32) (n : Fin 1000000) (d : Fin 2) :
    Host.dotGeneral dot_S1000000x2x2_S1000000x2_S1000000x2_2_1_1_n_0_0 none x y (ix2 n d)
      = x (ix3 n d 0) * y (ix2 n 0) + x (ix3 n d 1) * y (ix2 n 1) := by
  pointwise
  exact Fin.sum_univ_two _

/-! ## The two results -/

variable (V0 : Valuation τ sig (Elt Ideal))

/-- The categories. -/
abbrev best : IVec S1000000 32 := res_main_v331 V0

theorem cat_lt (n : Fin 1000000) : (best V0 (ix1 n)).toNat < 4 := by
  unfold best
  rw [best_at]
  exact tour_lt _ _ _ _

/-- The category of particle `n`, as an index. -/
def cat (n : Fin 1000000) : Fin 4 := ⟨(best V0 (ix1 n)).toNat, cat_lt V0 n⟩

theorem cat_val (n : Fin 1000000) : (cat V0 n).val = (best V0 (ix1 n)).toNat := by
  unfold cat
  with_reducible rfl

/-- The reference's intermediate arrays, over plain shapes. -/
abbrev locs : FVec Ideal S1000000x4x2 .f32 := V0 (Proc.devRef .tc main_arg2)
abbrev covs : FVec Ideal S1000000x4x2x2 .f32 := V0 (Proc.devRef .tc main_arg3)
abbrev c2s : IVec S1000000x1x1 32 := res_main_call2_v4 V0
abbrev c3s : IVec S1000000x1x1 32 := res_main_call3_v5 V0
abbrev vs : FVec Ideal S1000000x2x2 .f32 := res_main_v337 V0
abbrev xs : FVec Ideal S1000000x2 .f32 := res_main_v663 V0
abbrev ws : FVec Ideal S1000000x2 .f32 := res_main_v667 V0
abbrev ms : IVec S1000000x2 1 := res_main_v669 V0
abbrev ts : FVec Ideal S1000000x2 .f32 := res_main_v675 V0

theorem c2_at (n : Fin 1000000) : c2s V0 (ix3 n 0 0) = best V0 (ix1 n) := by
  unfold c2s res_main_call2_v4 res_main_v332
  exact wrap3 _ n (cat_lt V0 n)

theorem c3_at (n : Fin 1000000) : c3s V0 (ix3 n 0 0) = best V0 (ix1 n) := by
  unfold c3s res_main_call3_v5 res_main_v335
  exact wrap4 _ n (cat_lt V0 n)

theorem c2_lt (n : Fin 1000000) : (c2s V0 (ix3 n 0 0)).toNat < 4 := by
  rw [c2_at]
  exact cat_lt V0 n

theorem c3_lt (n : Fin 1000000) : (c3s V0 (ix3 n 0 0)).toNat < 4 := by
  rw [c3_at]
  exact cat_lt V0 n

theorem c2_fin (n : Fin 1000000) : (⟨(c2s V0 (ix3 n 0 0)).toNat, c2_lt V0 n⟩ : Fin 4) = cat V0 n := by
  ext
  rw [cat_val, ← c2_at]

theorem c3_fin (n : Fin 1000000) : (⟨(c3s V0 (ix3 n 0 0)).toNat, c3_lt V0 n⟩ : Fin 4) = cat V0 n := by
  ext
  rw [cat_val, ← c3_at]

theorem cov_at (n : Fin 1000000) (i j : Fin 2) : vs V0 (ix3 n i j) = covs V0 (ix4 n (cat V0 n) i j) := by
  unfold vs res_main_v337
  refine (square_at (covs V0) (c3s V0) _ _ n i j (c3_lt V0 n) ?_).trans (congrArg (fun z => covs V0 (ix4 n z i j)) (c3_fin V0 n))
  exact bounds_at (c3s V0) n (c3_lt V0 n)

/-- The pair of each particle at its category. -/
def picks : FVec Ideal S1000000x2 .f32 :=
  shapeCast S1000000x2 (select (broadcastInDim S1000000x1x2 ![0, 1] bcast_S1000000x1_S1000000x1x2_0_1 (Host.reduce IntOp.andi (andi (cmpi .sge (c2s V0) (broadcastInDim S1000000x1x1 ![] bcast_S_S1000000x1x1 (constantI S_ 32 0#32))) (cmpi .sle (c2s V0) (broadcastInDim S1000000x1x1 ![0, 1, 2] bcast_S1x1x1_S1000000x1x1_0_1_2 (broadcastInDim S1x1x1 ![2] bcast_S1_S1x1x1_2 (constantI S1 32 3#32))))) (constantI S_ 1 1#1) reducesTo_S1000000x1x1_S1000000x1_d2 h_S_)) (Host.gather gather_S1000000x4x2_S1000000x1x1_S1000000x1x2_2_1_0_0_1_2_112 (locs V0) (c2s V0)) (broadcastInDim S1000000x1x2 ![] bcast_S_S1000000x1x2 (constant S_ .f32 0x7FC00000#32))) shapeCasts_S1000000x1x2_S1000000x2

/-- The lower-triangular factor of each particle. -/
def factor : FVec Ideal S1000000x2x2 .f32 :=
  addf (select (broadcastInDim S1000000x2x2 ![1, 2] bcast_S2x2_S1000000x2x2_1_2 (cmpi .sge (addi (iotaInDim S2x2 32 0) (broadcastInDim S2x2 ![] bcast_S_S2x2 (constantI S_ 32 4294967295#32))) (iotaInDim S2x2 32 1))) (vs V0) (broadcastInDim S1000000x2x2 ![] bcast_S_S1000000x2x2 (constant S_ .f32 0x00000000#32))) (mulf (broadcastInDim S1000000x2x2 ![0, 1, 2] bcast_S1000000x2x1_S1000000x2x2_0_1_2 (broadcastInDim S1000000x2x1 ![0, 1] bcast_S1000000x2_S1000000x2x1_0_1 (Host.exp (Host.gather gather_S1000000x2x2_S2x2_S1000000x2_0_12_n_n_12_1_100000011 (vs V0) (concatenate S2x2 1 [⟨S2x1, (broadcastInDim S2x1 ![0] bcast_S2_S2x1_0 (select (cmpi .slt (iotaInDim S2 32 0) (broadcastInDim S2 ![] bcast_S_S2 (constantI S_ 32 0#32))) (addi (iotaInDim S2 32 0) (broadcastInDim S2 ![] bcast_S_S2 (constantI S_ 32 2#32))) (iotaInDim S2 32 0)))⟩, ⟨S2x1, (broadcastInDim S2x1 ![0] bcast_S2_S2x1_0 (select (cmpi .slt (iotaInDim S2 32 0) (broadcastInDim S2 ![] bcast_S_S2 (constantI S_ 32 0#32))) (addi (iotaInDim S2 32 0) (broadcastInDim S2 ![] bcast_S_S2 (constantI S_ 32 2#32))) (iotaInDim S2 32 0)))⟩] concatenates_S2x1_S2x1_S2x2_d1))))) (broadcastInDim S1000000x2x2 ![0, 1, 2] bcast_S1x2x2_S1000000x2x2_0_1_2 (broadcastInDim S1x2x2 ![1, 2] bcast_S2x2_S1x2x2_1_2 (uitofp .f32 (cmpi .eq (addi (iotaInDim S2x2 32 0) (broadcastInDim S2x2 ![] bcast_S_S2x2 (constantI S_ 32 0#32))) (iotaInDim S2x2 32 1))))))

/-- The deviates. -/
def devs : FVec Ideal S1000000x2 .f32 :=
  mulf (sp 0x3FB504F3#32) (mulf (addf (select (ms V0) (sp 0x3FC02E2F#32) (sp 0x40354F7E#32)) (mulf (addf (select (ms V0) (sp 0x3E7C8F63#32) (sp 0x3F8036DB#32)) (mulf (addf (select (ms V0) (sp 0xBB88E4EF#32) (sp 0x3C1AA57E#32)) (mulf (addf (select (ms V0) (sp 0xBAA45408#32) (sp 0xBBF9C5D7#32)) (mulf (addf (select (ms V0) (sp 0x396532DB#32) (sp 0x3BBC127B#32)) (mulf (addf (select (ms V0) (sp 0xB6935AC1#32) (sp 0xBB70BDE7#32)) (mulf (addf (select (ms V0) (sp 0xB66C7357#32) (sp 0x3AB0DC72#32)) (mulf (addf (select (ms V0) (sp 0x34B84B36#32) (sp 0x38D3B56B#32)) (mulf (select (ms V0) (sp 0x32F16588#32) (sp 0xB951F09B#32)) (ts V0))) (ts V0))) (ts V0))) (ts V0))) (ts V0))) (ts V0))) (ts V0))) (ts V0))) (xs V0))

/-- The displacements. -/
abbrev moves : FVec Ideal S1000000x2 .f32 := res_main_v705 V0

theorem out_split : moves V0
    = addf (picks V0) (Host.dotGeneral dot_S1000000x2x2_S1000000x2_S1000000x2_2_1_1_n_0_0 none (factor V0) (devs V0)) := by
  unfold moves res_main_v705 picks factor devs
  rfl

theorem picks_at (n : Fin 1000000) (d : Fin 2) : picks V0 (ix2 n d) = locs V0 (ix3 n (cat V0 n) d) := by
  unfold picks
  refine (pair_at (locs V0) (c2s V0) _ _ n d (c2_lt V0 n) ?_).trans (congrArg (fun z => locs V0 (ix3 n z d)) (c2_fin V0 n))
  exact bounds_at (c2s V0) n (c2_lt V0 n)

theorem pick_one (a b : EReal) : Scalar.select 1#1 a b = a := rfl

theorem pick_zero (a b : EReal) : Scalar.select 0#1 a b = b := rfl

/-- Choosing the argument first and the branch second is choosing both at once. -/
theorem branches (b : BitVec 1) (x p q : EReal) :
    (if b = 1 then central (Scalar.select b p q) else tail (Scalar.select b p q)) * x = (if b = 1 then central p else tail q) * x := by
  rcases BitVec.eq_zero_or_eq_one b with h | h
  · rw [h, pick_zero, if_neg (by decide), if_neg (by decide)]
  · rw [h, pick_one, if_pos (by decide), if_pos (by decide)]

theorem small (i : Fin 2) : (BitVec.ofNat 32 i.val).toInt.toNat = i.val := by
  fin_cases i <;> rfl

theorem factor_at (n : Fin 1000000) (i j : Fin 2) : factor V0 (ix3 n i j)
    = (if j < i then covs V0 (ix4 n (cat V0 n) i j) else 0) + Ideal.exp (covs V0 (ix4 n (cat V0 n) i i)) * (if i = j then 1 else 0) := by
  unfold factor
  rw [entry_at, below, diagonal, take_diag _ _ n i (by rw [where_at]; exact small i) (by rw [where_at]; exact small i), cov_at, cov_at]
  refine congrArg₂ (· + ·) ?_ (congrArg (fun z => Ideal.exp (covs V0 (ix4 n (cat V0 n) i i)) * z) ?_)
  · split_ifs
    · exact pick_one _ _
    · exact (pick_zero _ _).trans ((spread _ _ _).trans Ideal.ofBits_zero_f32)
  · split_ifs <;> simp

theorem w_any (s : FVec Ideal S1000000x2 .f32) (j : S1000000x2.Idx) :
    Host.negf (Host.log1p (mulf (Host.negf s) s)) j = -Ideal.log1p (-s j * s j) := rfl

theorem m_any (w k : FVec Ideal S1000000x2 .f32) (j : S1000000x2.Idx) : cmpf .olt w k j = Ideal.cmp .olt (w j) (k j) := rfl

theorem t_any (m : IVec S1000000x2 1) (w a b : FVec Ideal S1000000x2 .f32) (j : S1000000x2.Idx) :
    select m (subf w a) (subf (Host.sqrt w) b) j = Scalar.select (m j) (w j - a j) (Ideal.sqrt (w j) - b j) := rfl

/-- The argument of the deviate's two branches. -/
theorem w_at (j : S1000000x2.Idx) : ws V0 j = -Ideal.log1p (-xs V0 j * xs V0 j) := by
  unfold ws res_main_v667
  exact w_any _ j

theorem m_at (j : S1000000x2.Idx) : ms V0 j = Ideal.cmp .olt (ws V0 j) (C 0x40A00000#32) := by
  rw [← sp_at 0x40A00000#32 j]
  unfold ms res_main_v669
  exact m_any _ _ j

theorem t_at (j : S1000000x2.Idx) : ts V0 j
    = Scalar.select (ms V0 j) (ws V0 j - C 0x40200000#32) (Ideal.sqrt (ws V0 j) - C 0x40400000#32) := by
  rw [← sp_at 0x40200000#32 j, ← sp_at 0x40400000#32 j]
  unfold ts res_main_v675
  exact t_any _ _ _ _ j

theorem eps_at (j : S1000000x2.Idx) :
    C 0x3FB504F3#32 * ((if ms V0 j = 1 then central (ts V0 j) else tail (ts V0 j)) * xs V0 j) = epsK (xs V0 j) := by
  rw [← epsH_eq, t_at, branches, m_at, w_at]
  unfold epsH
  with_reducible rfl

theorem devs_at (n : Fin 1000000) (d : Fin 2) : devs V0 (ix2 n d) = dev (ea V0) (eb V0) (2 * n.val + d.val) := by
  unfold devs dev
  rw [two_branches, eps_at]
  exact congrArg epsK (sym_at V0 n d)

theorem sum_at (a b : FVec Ideal S1000000x2 .f32) (j : S1000000x2.Idx) : addf a b j = a j + b j := rfl

theorem out_at (n : Fin 1000000) (d : Fin 2) : moves V0 (ix2 n d) = locs V0 (ix3 n (cat V0 n) d)
    + (((if 0 < d then covs V0 (ix4 n (cat V0 n) d 0) else 0) + Ideal.exp (covs V0 (ix4 n (cat V0 n) d d)) * (if d = 0 then 1 else 0))
        * dev (ea V0) (eb V0) (2 * n.val)
      + ((if 1 < d then covs V0 (ix4 n (cat V0 n) d 1) else 0) + Ideal.exp (covs V0 (ix4 n (cat V0 n) d d)) * (if d = 1 then 1 else 0))
        * dev (ea V0) (eb V0) (2 * n.val + 1)) := by
  rw [out_split]
  refine (sum_at _ _ _).trans (congrArg₂ (· + ·) (picks_at V0 n d) ((product_at (factor V0) (devs V0) n d).trans ?_))
  rw [factor_at, factor_at, devs_at, devs_at, Fin.val_zero, Fin.val_one, Nat.add_zero]

end Cert.ReferenceIdeal.Val
-- ==== Proof.KRun.lean ====
/- The kernel's run, read at its results: the last contents of the two result arrays, the arguments as launched. -/
module

public import proofs.«01_k».proof.Proof.Gen.KernelIdeal.Frame
public import Idealize.ShloMosaic.Lib.Pipeline.ValueKit

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

set_option backward.isDefEq.respectTransparency.types false in
/-- Every execution ends, with each result at its last contents and the arguments unchanged. -/
theorem kernel_run : θ_run defs (onTc (τ := τ) (main (F := Ideal))) ⟨m, fun _ => 0, ρ⟩ (fun r => ∀ c : Dev nD,
      r.2.mem ((c.tc : Thread nD τ).loc main_v366) = W5 m ρ c (Proc.devRef .tc main_v366)
      ∧ r.2.mem ((c.tc : Thread nD τ).loc main_v367) = W5 m ρ c (Proc.devRef .tc main_v367)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v366 (by decide)), h c _ (mem_uc main_v367 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Val
-- ==== Proof.Mlp.lean ====
/- The four log probabilities: the first region's result, and the reference's, as one expression in the state and the weights. -/
module

public import proofs.«01_k».proof.Proof.RefOut
public import proofs.«01_k».proof.Proof.KRun

@[expose] public section

set_option maxRecDepth 16384

noncomputable section

open scoped BigOperators

namespace Cert.Spec

open Idealize.ShloMosaic

/-- A hidden unit after the soft sign. -/
def soft (h : EReal) : EReal := Ideal.div h (C 0x3F800000#32 + max h (-h))

/-- A hidden unit. -/
def hid (w0 w1 d0 d1 b : EReal) : EReal := soft (w0 * d0 + w1 * d1 + b)

/-- One of the four logits. -/
def logit (w h : Fin 4 → EReal) (b : EReal) : EReal := w 0 * h 0 + w 1 * h 1 + w 2 * h 2 + w 3 * h 3 + b

/-- The logarithm of the softmax of four numbers. -/
def lsm (v : Fin 4 → EReal) (k : Fin 4) : EReal :=
  v k - max (max (max (v 0) (v 1)) (v 2)) (v 3)
    - Ideal.log (Ideal.exp (v 0 - max (max (max (v 0) (v 1)) (v 2)) (v 3)) + Ideal.exp (v 1 - max (max (max (v 0) (v 1)) (v 2)) (v 3))
      + Ideal.exp (v 2 - max (max (max (v 0) (v 1)) (v 2)) (v 3)) + Ideal.exp (v 3 - max (max (max (v 0) (v 1)) (v 2)) (v 3)))

end Cert.Spec

namespace Cert.ReferenceIdeal.Val

open Idealize.ShloMosaic Cert.Spec

theorem fold_max (g : Fin 4 → EReal) : Finset.univ.fold max (C 0xFF800000#32) g = max (max (max (g 0) (g 1)) (g 2)) (g 3) := by
  rw [fold_four, bot_C, max_bot_right, max_assoc, max_assoc]

end Cert.ReferenceIdeal.Val

namespace Cert.KernelIdeal.Val

open Idealize.ShloMosaic Idealize.ShloMosaic.TcCoe Cert.Spec Cert.KernelIdeal.Gen

theorem shift_at (v : FVec Ideal S4x1 .f32) (m : FVec Ideal S1x1 .f32) (k : Fin 4) (hm : m (ix2 0 0) = max (max (max (v (ix2 0 0)) (v (ix2 1 0))) (v (ix2 2 0))) (v (ix2 3 0))) :
    k0_pay1 v m (ix2 k 0) = lsm (fun i => v (ix2 i 0)) k := by
  unfold lsm
  pointwise [k0_pay1, hm]
  rw [Fin.sum_univ_four]

theorem most_at (w1 : Vec Ideal S4x2 .f32) (d : Vec Ideal S1x2 .f32) (b1 : Vec Ideal S4x1 .f32) (w2 : Vec Ideal S4x4 .f32) (b2 : Vec Ideal S4x1 .f32)
    (v : FVec Ideal S4x1 .f32) (hv : k0_pay2 w1 d b1 w2 b2 = v) :
    k0_pay3 w1 d b1 w2 b2 (ix2 0 0) = max (max (max (v (ix2 0 0)) (v (ix2 1 0))) (v (ix2 2 0))) (v (ix2 3 0)) := by
  pointwise [k0_pay3, hv]
  exact Cert.ReferenceIdeal.Val.fold_max _

theorem mark (x j : Fin 4) : (FloatOps.sitofp .f32 (BitVec.setWidth 32 (IntOp.cmpi .eq (BitVec.ofNat 32 x.val) (BitVec.ofNat 32 j.val))) : Ideal .f32)
    = if x = j then (1 : EReal) else 0 := by
  have h : (BitVec.setWidth 32 (IntOp.cmpi .eq (BitVec.ofNat 32 x.val) (BitVec.ofNat 32 j.val))).toInt = if x = j then 1 else 0 := by
    fin_cases x <;> fin_cases j <;> rfl
  have e : (FloatOps.sitofp .f32 (BitVec.setWidth 32 (IntOp.cmpi .eq (BitVec.ofNat 32 x.val) (BitVec.ofNat 32 j.val))) : Ideal .f32)
    = (((BitVec.setWidth 32 (IntOp.cmpi .eq (BitVec.ofNat 32 x.val) (BitVec.ofNat 32 j.val))).toInt : ℝ) : EReal) := rfl
  rw [e, h]
  split_ifs <;> simp

/-- Multiplying a column by the identity and adding up its rows leaves the row asked for. -/
theorem turn (h : Fin 4 → EReal) (j : Fin 4) :
    (∑ x : Fin 4, h x * (FloatOps.sitofp .f32 (BitVec.setWidth 32 (IntOp.cmpi .eq (BitVec.ofNat 32 x.val) (BitVec.ofNat 32 j.val))) : Ideal .f32)) = h j := by
  rw [Finset.sum_eq_single j]
  · rw [mark, if_pos rfl, mul_one]
  · intro x _ hx
    rw [mark, if_neg hx, mul_zero]
  · exact fun hj => absurd (Finset.mem_univ j) hj

theorem logit_at (w1 : Vec Ideal S4x2 .f32) (d : Vec Ideal S1x2 .f32) (b1 : Vec Ideal S4x1 .f32) (w2 : Vec Ideal S4x4 .f32) (b2 : Vec Ideal S4x1 .f32) (k : Fin 4) :
    k0_pay2 w1 d b1 w2 b2 (ix2 k 0) = logit (fun i => w2 (ix2 k i))
      (fun i => hid (w1 (ix2 i 0)) (w1 (ix2 i 1)) (d (ix2 0 0)) (d (ix2 0 1)) (b1 (ix2 i 0))) (b2 (ix2 k 0)) := by
  unfold logit hid soft
  pointwise [k0_pay2]
  exact congrArg₂ (· + ·) (congrArg₂ (· + ·) (congrArg₂ (· + ·) (congrArg₂ (· + ·) (congrArg (w2 (ix2 k 0) * ·) (turn _ 0))
    (congrArg (w2 (ix2 k 1) * ·) (turn _ 1))) (congrArg (w2 (ix2 k 2) * ·) (turn _ 2))) (congrArg (w2 (ix2 k 3) * ·) (turn _ 3))) rfl

/-- The column of log probabilities over the arrays the region is entered with. -/
def arrL (d : Vec Ideal S1x2 .f32) (w1 : Vec Ideal S4x2 .f32) (b1 : Vec Ideal S4x1 .f32) (w2 : Vec Ideal S4x4 .f32) (b2 : Vec Ideal S4x1 .f32) : Vec Ideal S4x1 .f32 :=
  k0_pay1 (k0_pay2 w1 d b1 w2 b2) (k0_pay3 w1 d b1 w2 b2)

theorem arrL_at (d : Vec Ideal S1x2 .f32) (w1 : Vec Ideal S4x2 .f32) (b1 : Vec Ideal S4x1 .f32) (w2 : Vec Ideal S4x4 .f32) (b2 : Vec Ideal S4x1 .f32) (k : Fin 4) :
    arrL d w1 b1 w2 b2 (ix2 k 0) = lsm (fun c => logit (fun i => w2 (ix2 c i))
      (fun i => hid (w1 (ix2 i 0)) (w1 (ix2 i 1)) (d (ix2 0 0)) (d (ix2 0 1)) (b1 (ix2 i 0))) (b2 (ix2 c 0))) k := by
  unfold arrL
  refine (shift_at _ _ k (most_at w1 d b1 w2 b2 _ rfl)).trans (congrArg (fun v => lsm v k) (funext fun c => ?_))
  exact logit_at w1 d b1 w2 b2 c

variable (V : (c : Dev nD) → (b : Ref sig .tc) → Buf (Elt Ideal) ((c : Dev nD), (Proc.devRef .tc b : DevRef τ sig))) (c : Dev nD)

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem in0 (t : Fin cfg0.N) : iblk0 V c 0 t = V c main_v358 := by
  funext y
  blk_ext [iblk0, idx0 t]
theorem in1 (t : Fin cfg0.N) : iblk0 V c 1 t = V c main_arg5 := by
  funext y
  blk_ext [iblk0, idx0 t]
theorem in2 (t : Fin cfg0.N) : iblk0 V c 2 t = V c main_v359 := by
  funext y
  blk_ext [iblk0, idx0 t]
theorem in3 (t : Fin cfg0.N) : iblk0 V c 3 t = V c main_arg7 := by
  funext y
  blk_ext [iblk0, idx0 t]
theorem in4 (t : Fin cfg0.N) : iblk0 V c 4 t = V c main_v360 := by
  funext y
  blk_ext [iblk0, idx0 t]

theorem outs_col (d : Vec Ideal S1x2 .f32) (w1 : Vec Ideal S4x2 .f32) (b1 : Vec Ideal S4x1 .f32) (w2 : Vec Ideal S4x4 .f32) (b2 : Vec Ideal S4x1 .f32) :
    out0_5 d w1 b1 w2 b2 = arrL d w1 b1 w2 b2 := by
  unfold out0_5 arrL
  frame_out

/-- The first region's result array. -/
theorem arr0 : (dat0 V c).arrAt 5 cfg0.N = arrL (V c main_v358) (V c main_arg5) (V c main_v359) (V c main_arg7) (V c main_v360) := by
  refine (dat0 V c).arrAt_eq_of_covers 5 _ (by decide +kernel) fun t _ y => ?_
  blk_simp
  rw [after0_5, outs_col, in0, in1, in2, in3, in4]
  have he : (win0_5.blk t).view.emb y = y := by
    blk_ext [idx0 t]
  rw [he]

end Cert.KernelIdeal.Val

namespace Cert.ReferenceIdeal.Val

open Idealize.ShloMosaic Idealize.ShloMosaic.TcCoe Cert.Spec Cert.ReferenceIdeal.Gen Cert.ReferenceIdeal.Value

theorem layer1_at (d : FVec Ideal S2 .f32) (w : FVec Ideal S4x2 .f32) (b : FVec Ideal S4 .f32) (k : Fin 4) :
    addf (Host.dotGeneral dot_S2_S2x4_S4_0_0_n_1_n_n none d (transpose S2x4 [1, 0] w transposes_S4x2_S2x4_1_0)) b (ix1 k)
      = w (ix2 k 0) * d (ix1 0) + w (ix2 k 1) * d (ix1 1) + b (ix1 k) := by
  pointwise
  rw [Fin.sum_univ_two, mul_comm (d _), mul_comm (d _)]

theorem soft_at (h : FVec Ideal S4 .f32) (k : Fin 4) :
    Host.divf h (addf (broadcastInDim S4 ![] bcast_S_S4 (constant S_ .f32 0x3F800000#32)) (Host.absf h)) (ix1 k) = soft (h (ix1 k)) := by
  unfold soft
  pointwise
  rfl

theorem layer2_at (h : FVec Ideal S4 .f32) (w : FVec Ideal S4x4 .f32) (b : FVec Ideal S4 .f32) (k : Fin 4) :
    addf (Host.dotGeneral dot_S4_S4x4_S4_0_0_n_1_n_n none h (transpose S4x4 [1, 0] w transposes_S4x4_S4x4_1_0)) b (ix1 k)
      = logit (fun i => w (ix2 k i)) (fun i => h (ix1 i)) (b (ix1 k)) := by
  unfold logit
  pointwise
  rw [Fin.sum_univ_four, mul_comm (h _), mul_comm (h _), mul_comm (h _), mul_comm (h _)]

theorem centre_at (v : FVec Ideal S4 .f32) (k : Fin 4) :
    subf v (broadcastInDim S4 ![0] bcast_S1_S4_0 (broadcastInDim S1 ![] bcast_S_S1 (maximumf (constant S_ .f32 0xFF800000#32)
      (Host.reduce FloatOps.maximumf v (constant S_ .f32 0xFF800000#32) reducesTo_S4_S_d0 h_S_)))) (ix1 k)
      = v (ix1 k) - max (max (max (v (ix1 0)) (v (ix1 1))) (v (ix1 2))) (v (ix1 3)) := by
  pointwise
  refine congrArg (v (ix1 k) - ·) ?_
  exact ((congrArg (fun z => max z _) bot_C).trans (max_bot_left _)).trans (fold_max _)

theorem norm_at (u : FVec Ideal S4 .f32) (k : Fin 4) :
    subf u (broadcastInDim S4 ![0] bcast_S1_S4_0 (Host.log (broadcastInDim S1 ![] bcast_S_S1
      (Host.reduceAdd (Host.exp u) (constant S_ .f32 0x00000000#32) reducesTo_S4_S_d0 h_S_)))) (ix1 k)
      = u (ix1 k) - Ideal.log (Ideal.exp (u (ix1 0)) + Ideal.exp (u (ix1 1)) + Ideal.exp (u (ix1 2)) + Ideal.exp (u (ix1 3))) := by
  pointwise
  rw [Fin.sum_univ_four]

variable (V0 : Valuation τ sig (Elt Ideal))

/-- The arrays the log probabilities are computed from. -/
abbrev inD : FVec Ideal S2 .f32 := V0 (Proc.devRef .tc main_arg4)
abbrev inW1 : FVec Ideal S4x2 .f32 := V0 (Proc.devRef .tc main_arg5)
abbrev inB1 : FVec Ideal S4 .f32 := V0 (Proc.devRef .tc main_arg6)
abbrev inW2 : FVec Ideal S4x4 .f32 := V0 (Proc.devRef .tc main_arg7)
abbrev inB2 : FVec Ideal S4 .f32 := V0 (Proc.devRef .tc main_arg8)
abbrev hs : FVec Ideal S4 .f32 := res_main_v3 V0
abbrev ls : FVec Ideal S4 .f32 := res_main_v10 V0
abbrev cs : FVec Ideal S4 .f32 := res_main_call0_v4 V0

theorem hs_at (k : Fin 4) : hs V0 (ix1 k) = inW1 V0 (ix2 k 0) * inD V0 (ix1 0) + inW1 V0 (ix2 k 1) * inD V0 (ix1 1) + inB1 V0 (ix1 k) := by
  unfold hs res_main_v3
  exact layer1_at (inD V0) (inW1 V0) (inB1 V0) k

theorem ls_at (k : Fin 4) : ls V0 (ix1 k) = logit (fun i => inW2 V0 (ix2 k i))
    (fun i => hid (inW1 V0 (ix2 i 0)) (inW1 V0 (ix2 i 1)) (inD V0 (ix1 0)) (inD V0 (ix1 1)) (inB1 V0 (ix1 i))) (inB2 V0 (ix1 k)) := by
  unfold ls res_main_v10
  refine (layer2_at _ (inW2 V0) (inB2 V0) k).trans (congrArg (fun h => logit _ h _) (funext fun i => ?_))
  refine (soft_at (hs V0) i).trans ?_
  rw [hs_at]
  rfl

theorem cs_at (k : Fin 4) : cs V0 (ix1 k)
    = ls V0 (ix1 k) - max (max (max (ls V0 (ix1 0)) (ls V0 (ix1 1))) (ls V0 (ix1 2))) (ls V0 (ix1 3)) := by
  unfold cs res_main_call0_v4
  exact centre_at (ls V0) k

/-- The reference's log probability of a category. -/
theorem logp_at (k : Fin 4) : logp V0 (ix1 k) = lsm (fun i => ls V0 (ix1 i)) k := by
  unfold logp
  refine (norm_at (cs V0) k).trans ?_
  rw [cs_at, cs_at, cs_at, cs_at, cs_at]
  rfl

end Cert.ReferenceIdeal.Val
-- ==== Proof.Answer.lean ====
/- The two results as one expression in the launch arguments, and the kernel's results as that expression. -/
module

public import proofs.«01_k».proof.Proof.Flat
public import proofs.«01_k».proof.Proof.Keys
public import proofs.«01_k».proof.Proof.Mlp

@[expose] public section

set_option maxRecDepth 16384

noncomputable section

namespace Cert.Spec

open Idealize.ShloMosaic
open Cert.KernelIdeal
open Cert.KernelIdeal.Val (zOf tour tour_lt)

/-- The log probabilities of the four categories. -/
def lgs (d : FVec Ideal S2 .f32) (w1 : FVec Ideal S4x2 .f32) (b1 : FVec Ideal S4 .f32) (w2 : FVec Ideal S4x4 .f32) (b2 : FVec Ideal S4 .f32) (k : Fin 4) : EReal :=
  lsm (fun c => logit (fun i => w2 (ix2 c i)) (fun i => hid (w1 (ix2 i 0)) (w1 (ix2 i 1)) (d (ix1 0)) (d (ix1 1)) (b1 (ix1 i))) (b2 (ix1 c))) k

/-- The category of particle `n`, from the step's number plus one and the log probabilities. -/
def catZ (s : W) (g : Fin 4 → EReal) (n : Fin 1000000) : W :=
  zOf (tf gH 0#32 42#32 0#32 s).1 (tf gH 0#32 42#32 0#32 s).2 (g 0) (g 1) (g 2) (g 3) n.val

theorem catZ_lt (s : W) (g : Fin 4 → EReal) (n : Fin 1000000) : (catZ s g n).toNat < 4 := tour_lt _ _ _ _

/-- The same as an index. -/
def catF (s : W) (g : Fin 4 → EReal) (n : Fin 1000000) : Fin 4 := ⟨(catZ s g n).toNat, catZ_lt s g n⟩

theorem catZ_eq (s : W) (g : Fin 4 → EReal) (n : Fin 1000000) : catZ s g n = BitVec.ofNat 32 (catF s g n).val := by
  unfold catF
  exact BitVec.eq_of_toNat_eq (by rw [BitVec.toNat_ofNat, Nat.mod_eq_of_lt (catZ s g n).isLt])

/-- Deviate `q`. -/
def devE (s : W) (q : Nat) : EReal := dev (tf gH 0#32 7#32 0#32 s).1 (tf gH 0#32 7#32 0#32 s).2 q

/-- A coordinate of a particle's position. -/
def posX (s : W) (g : Fin 4 → EReal) (x : FVec Ideal S1000000x2 .f32) (l : FVec Ideal S1000000x4x2 .f32) (v : FVec Ideal S1000000x4x2x2 .f32)
    (n : Fin 1000000) : EReal :=
  x (ix2 n 0) + (l (ix3 n (catF s g n) 0) + Ideal.exp (v (ix4 n (catF s g n) 0 0)) * devE s (2 * n.val))
def posY (s : W) (g : Fin 4 → EReal) (x : FVec Ideal S1000000x2 .f32) (l : FVec Ideal S1000000x4x2 .f32) (v : FVec Ideal S1000000x4x2x2 .f32)
    (n : Fin 1000000) : EReal :=
  x (ix2 n 1) + (l (ix3 n (catF s g n) 1) + Ideal.exp (v (ix4 n (catF s g n) 1 1)) * devE s (2 * n.val + 1)
    + v (ix4 n (catF s g n) 1 0) * devE s (2 * n.val))

end Cert.Spec

namespace Cert.KernelIdeal.Val

open Idealize.ShloMosaic Idealize.ShloMosaic.TcCoe Cert.Spec Cert.KernelIdeal.Gen

theorem arrP_at (kk : Vec Ideal S2x2 .i32) (lp : Vec Ideal S4x1 .f32) (xp : Vec Ideal S125x125x128 .f32) (xl : Vec Ideal S125x500x128 .f32)
    (xc : Vec Ideal S125x1000x128 .f32) (i r : Fin 125) (k : Fin 128) : arrP kk lp xp xl xc (ix3 i r k)
      = outP (pt i) (kk (ix2 0 0)) (kk (ix2 0 1)) (kk (ix2 1 0)) (kk (ix2 1 1)) (lp (ix2 0 0)) (lp (ix2 1 0)) (lp (ix2 2 0)) (lp (ix2 3 0))
        (blkP xp i) (blkL xl i) (blkC xc i) (ix3 0 r k) := rfl

section arrays
variable (kk : Vec Ideal S2x2 .i32) (lp : Vec Ideal S4x1 .f32) (x : Vec Ideal S1000000x2 .f32) (l : Vec Ideal S1000000x4x2 .f32) (v : Vec Ideal S1000000x4x2x2 .f32)
  (s : W) (g : Fin 4 → EReal)

theorem finalZ (h0 : kk (ix2 0 0) = (tf gH 0#32 42#32 0#32 s).1) (h1 : kk (ix2 0 1) = (tf gH 0#32 42#32 0#32 s).2) (hg : ∀ k, lp (ix2 k 0) = g k)
    (h : S125x125x64.ShapeCasts S1000000) (n : Fin 1000000) : shapeCast S1000000 (arrZ kk lp) h (ix1 n) = catZ s g n := by
  refine (flatZ (arrZ kk lp) h n).trans ?_
  refine (outZ_at (pt (bk n)) _ _ _ _ _ _ (rowOf n) (pl n)).trans ?_
  unfold catZ
  rw [h0, h1, hg, hg, hg, hg]
  exact congrArg _ (num_bk n)

theorem finalX (h0 : kk (ix2 0 0) = (tf gH 0#32 42#32 0#32 s).1) (h1 : kk (ix2 0 1) = (tf gH 0#32 42#32 0#32 s).2)
    (h2 : kk (ix2 1 0) = (tf gH 0#32 7#32 0#32 s).1) (h3 : kk (ix2 1 1) = (tf gH 0#32 7#32 0#32 s).2) (hg : ∀ k, lp (ix2 k 0) = g k)
    (hx : S1000000x2.ShapeCasts S125x125x128) (hl : S1000000x4x2.ShapeCasts S125x500x128) (hv : S1000000x4x2x2.ShapeCasts S125x1000x128)
    (h : S125x125x128.ShapeCasts S1000000x2) (n : Fin 1000000) :
    shapeCast S1000000x2 (arrP kk lp (shapeCast S125x125x128 x hx) (shapeCast S125x500x128 l hl) (shapeCast S125x1000x128 v hv)) h (ix2 n 0)
      = posX s g x l v n := by
  rw [flatP0, arrP_at, outP_lo]
  have hz : zOf (kk (ix2 0 0)) (kk (ix2 0 1)) (lp (ix2 0 0)) (lp (ix2 1 0)) (lp (ix2 2 0)) (lp (ix2 3 0)) (num (bk n).val (rowOf n) (pl n))
      = BitVec.ofNat 32 (catF s g n).val := by
    rw [h0, h1, hg, hg, hg, hg, num_bk]
    exact catZ_eq s g n
  have hp : (pt (bk n) 0).val = (bk n).val := rfl
  rw [hp, hz, num_bk, h2, h3, rows0, rowsL, rowsL, rowsL, rowsL, rowsC, rowsC, rowsC, rowsC]
  unfold posX devE
  refine congrArg (x (ix2 n 0) + ·) (congrArg₂ (· + ·) ?_ (congrArg (fun w => Ideal.exp w * _) ?_))
  · exact pick_at _ (fun c => l (ix3 n c 0)) _ rfl
  · exact pick_at _ (fun c => v (ix4 n c 0 0)) _ rfl

theorem finalY (h0 : kk (ix2 0 0) = (tf gH 0#32 42#32 0#32 s).1) (h1 : kk (ix2 0 1) = (tf gH 0#32 42#32 0#32 s).2)
    (h2 : kk (ix2 1 0) = (tf gH 0#32 7#32 0#32 s).1) (h3 : kk (ix2 1 1) = (tf gH 0#32 7#32 0#32 s).2) (hg : ∀ k, lp (ix2 k 0) = g k)
    (hx : S1000000x2.ShapeCasts S125x125x128) (hl : S1000000x4x2.ShapeCasts S125x500x128) (hv : S1000000x4x2x2.ShapeCasts S125x1000x128)
    (h : S125x125x128.ShapeCasts S1000000x2) (n : Fin 1000000) :
    shapeCast S1000000x2 (arrP kk lp (shapeCast S125x125x128 x hx) (shapeCast S125x500x128 l hl) (shapeCast S125x1000x128 v hv)) h (ix2 n 1)
      = posY s g x l v n := by
  rw [flatP1, arrP_at, outP_hi]
  have hz : zOf (kk (ix2 0 0)) (kk (ix2 0 1)) (lp (ix2 0 0)) (lp (ix2 1 0)) (lp (ix2 2 0)) (lp (ix2 3 0)) (num (bk n).val (rowOf n) (pl n))
      = BitVec.ofNat 32 (catF s g n).val := by
    rw [h0, h1, hg, hg, hg, hg, num_bk]
    exact catZ_eq s g n
  have hp : (pt (bk n) 0).val = (bk n).val := rfl
  rw [hp, hz, num_bk, h2, h3, rows1, rowsL, rowsL, rowsL, rowsL, rowsC, rowsC, rowsC, rowsC, rowsC, rowsC, rowsC, rowsC]
  unfold posY devE
  refine congrArg (x (ix2 n 1) + ·) (congrArg₂ (· + ·) (congrArg₂ (· + ·) ?_ (congrArg (fun w => Ideal.exp w * _) ?_)) (congrArg (fun w => w * _) ?_))
  · exact pick_at _ (fun c => l (ix3 n c 1)) _ rfl
  · exact pick_at _ (fun c => v (ix4 n c 1 1)) _ rfl
  · exact pick_at _ (fun c => v (ix4 n c 1 0)) _ rfl

end arrays

variable (m : (ℓ : Loc nD τ sig) → Buf (Elt Ideal) ℓ) (ρ : Dev nD → PrngReg) (c : Dev nD)

theorem end_v366 (U : Valuation τ sig (Elt Ideal)) : StableHlo.after hostOps2 U (Proc.devRef .tc main_v366)
    = shapeCast S1000000x2 (U (Proc.devRef .tc main_v365_0)) shapeCasts_S125x125x128_S1000000x2 := by
  after_reads_simp
  rfl
theorem end_v367 (U : Valuation τ sig (Elt Ideal)) : StableHlo.after hostOps2 U (Proc.devRef .tc main_v367)
    = shapeCast S1000000 (U (Proc.devRef .tc main_v365_1)) shapeCasts_S125x125x64_S1000000 := by
  after_reads_simp
  rfl
theorem mid_v362 (U : Valuation τ sig (Elt Ideal)) : StableHlo.after hostOps1 U (Proc.devRef .tc main_v362)
    = shapeCast S125x125x128 (U (Proc.devRef .tc main_arg0)) shapeCasts_S1000000x2_S125x125x128 := by
  after_reads_simp
  rfl
theorem mid_v363 (U : Valuation τ sig (Elt Ideal)) : StableHlo.after hostOps1 U (Proc.devRef .tc main_v363)
    = shapeCast S125x500x128 (U (Proc.devRef .tc main_arg2)) shapeCasts_S1000000x4x2_S125x500x128 := by
  after_reads_simp
  rfl
theorem mid_v364 (U : Valuation τ sig (Elt Ideal)) : StableHlo.after hostOps1 U (Proc.devRef .tc main_v364)
    = shapeCast S125x1000x128 (U (Proc.devRef .tc main_arg3)) shapeCasts_S1000000x4x2x2_S125x1000x128 := by
  after_reads_simp
  rfl

/-- The keys the second region is entered with. -/
theorem keys_in : V3 m ρ c main_v357 = shapeCast S2x2 (concatenate S4 0
    [⟨S1, at0 (W0 m ρ c) 238 (Proc.devRef .tc main_v175)⟩, ⟨S1, at0 (W0 m ρ c) 238 (Proc.devRef .tc main_v179)⟩,
      ⟨S1, at0 (W0 m ρ c) 470 (Proc.devRef .tc main_v351)⟩, ⟨S1, at0 (W0 m ρ c) 470 (Proc.devRef .tc main_v355)⟩]
    concatenates_S1_S1_S1_S1_S4_d0) shapeCasts_S4_S2x2 :=
  (W3_of m ρ c main_v357 (by decide)).trans ((W2_of m ρ c main_v357 (by decide)).trans (line_keys (W0 m ρ c)))

/-- The log probabilities the second region is entered with. -/
theorem logs_in : V3 m ρ c main_v361 = arrL (V1 m ρ c main_v358) (V1 m ρ c main_arg5) (V1 m ρ c main_v359) (V1 m ρ c main_arg7) (V1 m ρ c main_v360) :=
  (W3_of m ρ c main_v361 (by decide)).trans ((W2_arr m ρ c 5).trans (arr0 (V1 m ρ) c))

theorem pos_in : V3 m ρ c main_v362 = shapeCast S125x125x128 (W0 m ρ c (Proc.devRef .tc main_arg0)) shapeCasts_S1000000x2_S125x125x128 :=
  (mid_v362 (W2 m ρ c)).trans (congrArg (fun y => shapeCast S125x125x128 y shapeCasts_S1000000x2_S125x125x128) (W2_args m ρ c main_arg0 (by decide)))
theorem loc_in : V3 m ρ c main_v363 = shapeCast S125x500x128 (W0 m ρ c (Proc.devRef .tc main_arg2)) shapeCasts_S1000000x4x2_S125x500x128 :=
  (mid_v363 (W2 m ρ c)).trans (congrArg (fun y => shapeCast S125x500x128 y shapeCasts_S1000000x4x2_S125x500x128) (W2_args m ρ c main_arg2 (by decide)))
theorem cov_in : V3 m ρ c main_v364 = shapeCast S125x1000x128 (W0 m ρ c (Proc.devRef .tc main_arg3)) shapeCasts_S1000000x4x2x2_S125x1000x128 :=
  (mid_v364 (W2 m ρ c)).trans (congrArg (fun y => shapeCast S125x1000x128 y shapeCasts_S1000000x4x2x2_S125x1000x128) (W2_args m ρ c main_arg3 (by decide)))

/-- The launch's arguments, over plain shapes. -/
abbrev aX : FVec Ideal S1000000x2 .f32 := W0 m ρ c (Proc.devRef .tc main_arg0)
abbrev aL : FVec Ideal S1000000x4x2 .f32 := W0 m ρ c (Proc.devRef .tc main_arg2)
abbrev aC : FVec Ideal S1000000x4x2x2 .f32 := W0 m ρ c (Proc.devRef .tc main_arg3)
abbrev aD : FVec Ideal S2 .f32 := W0 m ρ c (Proc.devRef .tc main_arg4)
abbrev aW1 : FVec Ideal S4x2 .f32 := W0 m ρ c (Proc.devRef .tc main_arg5)
abbrev aB1 : FVec Ideal S4 .f32 := W0 m ρ c (Proc.devRef .tc main_arg6)
abbrev aW2 : FVec Ideal S4x4 .f32 := W0 m ρ c (Proc.devRef .tc main_arg7)
abbrev aB2 : FVec Ideal S4 .f32 := W0 m ρ c (Proc.devRef .tc main_arg8)
abbrev aS : W := t1 (W0 m ρ c)
abbrev aG : Fin 4 → EReal := lgs (aD m ρ c) (aW1 m ρ c) (aB1 m ρ c) (aW2 m ρ c) (aB2 m ρ c)
abbrev kIn : Vec Ideal S2x2 .i32 := V3 m ρ c main_v357
abbrev lIn : Vec Ideal S4x1 .f32 := V3 m ρ c main_v361

theorem lIn_at (k : Fin 4) : lIn m ρ c (ix2 k 0) = aG m ρ c k := by
  unfold lIn
  rw [logs_in]
  refine (arrL_at _ _ _ _ _ k).trans ?_
  have e5 : V1 m ρ c main_arg5 = W0 m ρ c (Proc.devRef .tc main_arg5) := W1_args m ρ c main_arg5 (by decide)
  have e7 : V1 m ρ c main_arg7 = W0 m ρ c (Proc.devRef .tc main_arg7) := W1_args m ρ c main_arg7 (by decide)
  have e8 : V1 m ρ c main_v358 = shapeCast S1x2 (W0 m ρ c (Proc.devRef .tc main_arg4)) shapeCasts_S2_S1x2 := line_state (W0 m ρ c)
  have e9 : V1 m ρ c main_v359 = shapeCast S4x1 (W0 m ρ c (Proc.devRef .tc main_arg6)) shapeCasts_S4_S4x1 := line_bias1 (W0 m ρ c)
  have e0 : V1 m ρ c main_v360 = shapeCast S4x1 (W0 m ρ c (Proc.devRef .tc main_arg8)) shapeCasts_S4_S4x1 := line_bias2 (W0 m ρ c)
  rw [e5, e7, e8, e9, e0]
  unfold aG lgs
  refine congrArg (fun f => lsm f k) (funext fun i => ?_)
  refine congrArg₂ (logit _) (funext fun j => ?_) (col_at (aB2 m ρ c) _ i)
  rw [row_at (aD m ρ c), row_at (aD m ρ c), col_at (aB1 m ρ c)]

theorem kIn_00 : kIn m ρ c (ix2 0 0) = (tf gH 0#32 42#32 0#32 (aS m ρ c)).1 := by
  rw [← tf_gK, ← keys0 (W0 m ρ c) (ix1 0)]
  unfold kIn
  rw [keys_in]
  exact words_at _ _ _ _ _ _ 0 0
theorem kIn_01 : kIn m ρ c (ix2 0 1) = (tf gH 0#32 42#32 0#32 (aS m ρ c)).2 := by
  rw [← tf_gK, ← keys0 (W0 m ρ c) (ix1 0)]
  unfold kIn
  rw [keys_in]
  exact words_at _ _ _ _ _ _ 0 1
theorem kIn_10 : kIn m ρ c (ix2 1 0) = (tf gH 0#32 7#32 0#32 (aS m ρ c)).1 := by
  rw [← tf_gK, ← keys1 (W0 m ρ c) (ix1 0)]
  unfold kIn
  rw [keys_in]
  exact words_at _ _ _ _ _ _ 1 0
theorem kIn_11 : kIn m ρ c (ix2 1 1) = (tf gH 0#32 7#32 0#32 (aS m ρ c)).2 := by
  rw [← tf_gK, ← keys1 (W0 m ρ c) (ix1 0)]
  unfold kIn
  rw [keys_in]
  exact words_at _ _ _ _ _ _ 1 1

/-- The kernel's categories. -/
abbrev outC : IVec S1000000 32 := W5 m ρ c (Proc.devRef .tc main_v367)
/-- The kernel's positions. -/
abbrev outX : FVec Ideal S1000000x2 .f32 := W5 m ρ c (Proc.devRef .tc main_v366)

theorem outC_eq : outC m ρ c = shapeCast S1000000 (arrZ (kIn m ρ c) (lIn m ρ c)) shapeCasts_S125x125x64_S1000000 :=
  (end_v367 (W4 m ρ c)).trans (congrArg (fun y => shapeCast S1000000 y shapeCasts_S125x125x64_S1000000) ((W4_arr m ρ c 6).trans (arr6 (V3 m ρ) c)))

theorem outX_eq : outX m ρ c = shapeCast S1000000x2 (arrP (kIn m ρ c) (lIn m ρ c) (shapeCast S125x125x128 (aX m ρ c) shapeCasts_S1000000x2_S125x125x128)
    (shapeCast S125x500x128 (aL m ρ c) shapeCasts_S1000000x4x2_S125x500x128) (shapeCast S125x1000x128 (aC m ρ c) shapeCasts_S1000000x4x2x2_S125x1000x128))
    shapeCasts_S125x125x128_S1000000x2 := by
  refine (end_v366 (W4 m ρ c)).trans (congrArg (fun y => shapeCast S1000000x2 y shapeCasts_S125x125x128_S1000000x2) ((W4_arr m ρ c 5).trans ?_))
  rw [arr5, pos_in, loc_in, cov_in]

theorem outC_at (n : Fin 1000000) : outC m ρ c (ix1 n) = catZ (aS m ρ c) (aG m ρ c) n := by
  rw [outC_eq]
  exact finalZ _ _ _ _ (kIn_00 m ρ c) (kIn_01 m ρ c) (lIn_at m ρ c) _ n

theorem outX_at0 (n : Fin 1000000) : outX m ρ c (ix2 n 0) = posX (aS m ρ c) (aG m ρ c) (aX m ρ c) (aL m ρ c) (aC m ρ c) n := by
  rw [outX_eq]
  exact finalX _ _ _ _ _ _ _ (kIn_00 m ρ c) (kIn_01 m ρ c) (kIn_10 m ρ c) (kIn_11 m ρ c) (lIn_at m ρ c) _ _ _ _ n

theorem outX_at1 (n : Fin 1000000) : outX m ρ c (ix2 n 1) = posY (aS m ρ c) (aG m ρ c) (aX m ρ c) (aL m ρ c) (aC m ρ c) n := by
  rw [outX_eq]
  exact finalY _ _ _ _ _ _ _ (kIn_00 m ρ c) (kIn_01 m ρ c) (kIn_10 m ρ c) (kIn_11 m ρ c) (lIn_at m ρ c) _ _ _ _ n

end Cert.KernelIdeal.Val

namespace Cert.ReferenceIdeal.Val

open Idealize.ShloMosaic Cert.Spec Cert.ReferenceIdeal.Gen Cert.ReferenceIdeal.Value
open Cert.KernelIdeal.Val (tour)

variable (V0 : Valuation τ sig (Elt Ideal))

abbrev rX : FVec Ideal S1000000x2 .f32 := V0 (Proc.devRef .tc main_arg0)
abbrev rG : Fin 4 → EReal := lgs (inD V0) (inW1 V0) (inB1 V0) (inW2 V0) (inB2 V0)
/-- The reference's positions. -/
abbrev refX : FVec Ideal S1000000x2 .f32 := addf (rX V0) (moves V0)

theorem logp_lgs (k : Fin 4) : logp V0 (ix1 k) = rG V0 k := by
  rw [logp_at]
  unfold rG lgs
  exact congrArg (fun f => lsm f k) (funext fun i => ls_at V0 i)

theorem best_catZ (n : Fin 1000000) : best V0 (ix1 n) = catZ (tt V0) (rG V0) n := by
  have h : (za V0, zb V0) = tf gH 0#32 42#32 0#32 (tt V0) := key_z V0
  unfold best
  rw [best_at, score_at, score_at, score_at, score_at, logp_lgs, logp_lgs, logp_lgs, logp_lgs]
  unfold catZ Cert.KernelIdeal.Val.zOf
  rw [← h, add_comm (draw _ _ _), add_comm (draw _ _ _), add_comm (draw _ _ _), add_comm (draw _ _ _)]
  rfl

theorem cat_catF (n : Fin 1000000) : cat V0 n = catF (tt V0) (rG V0) n := by
  ext
  rw [cat_val, best_catZ]
  rfl

theorem dev_devE (q : Nat) : dev (ea V0) (eb V0) q = devE (tt V0) q := by
  have h : (ea V0, eb V0) = tf gH 0#32 7#32 0#32 (tt V0) := key_e V0
  unfold devE
  rw [← h]

theorem refX_at0 (n : Fin 1000000) : refX V0 (ix2 n 0) = posX (tt V0) (rG V0) (rX V0) (locs V0) (covs V0) n := by
  unfold refX posX
  rw [sum_at, out_at, cat_catF, dev_devE, dev_devE]
  simp only [show ¬ (0 : Fin 2) < 0 from by decide, show ¬ (1 : Fin 2) < 0 from by decide, show ¬ (0 : Fin 2) = 1 from by decide, if_false, if_true,
    mul_zero, mul_one, zero_add, add_zero, zero_mul]

theorem refX_at1 (n : Fin 1000000) : refX V0 (ix2 n 1) = posY (tt V0) (rG V0) (rX V0) (locs V0) (covs V0) n := by
  unfold refX posY
  rw [sum_at, out_at, cat_catF, dev_devE, dev_devE]
  simp only [show ¬ (1 : Fin 2) < 1 from by decide, show (0 : Fin 2) < 1 from by decide, show ¬ (1 : Fin 2) = 0 from by decide, if_false, if_true,
    mul_zero, mul_one, zero_add, add_zero, zero_mul]
  rw [add_assoc (locs V0 _), add_comm (Ideal.exp _ * _)]

end Cert.ReferenceIdeal.Val
-- ==== Proof.Agree.lean ====
/- From equal arguments the kernel and the reference end with equal results. -/
module

public import proofs.«01_k».proof.Proof.Answer
public import proofs.«01_k».proof.Defs

@[expose] public section

set_option maxRecDepth 16384

noncomputable section

namespace Cert.Agree

open Idealize.ShloMosaic Idealize.ShloMosaic.TcCoe Cert.Spec

variable (m : (ℓ : Loc KernelIdeal.nD KernelIdeal.τ KernelIdeal.sig) → Buf (Elt Ideal) ℓ) (ρ : Dev KernelIdeal.nD → PrngReg)
  (c : Dev KernelIdeal.nD) (V0 : Valuation ReferenceIdeal.τ ReferenceIdeal.sig (Elt Ideal))

open KernelIdeal.Val ReferenceIdeal.Val

/-- The step's number of the reference, over a plain shape. -/
abbrev rS : IVec KernelIdeal.S_ 32 := V0 (Proc.devRef .tc ReferenceIdeal.main_arg9)
abbrev kS : IVec KernelIdeal.S_ 32 := KernelIdeal.Gen.W0 m ρ c (Proc.devRef .tc KernelIdeal.main_arg9)

theorem step_eq (h : rS V0 = kS m ρ c) : tt V0 = aS m ρ c := by
  have e : tt V0 = IntOp.addi (rS V0 ix0) 1#32 := rfl
  rw [e, h]

theorem logs_eq (h4 : inD V0 = aD m ρ c) (h5 : inW1 V0 = aW1 m ρ c) (h6 : inB1 V0 = aB1 m ρ c) (h7 : inW2 V0 = aW2 m ρ c) (h8 : inB2 V0 = aB2 m ρ c) :
    rG V0 = aG m ρ c := by
  unfold rG aG
  rw [h4, h5, h6, h7, h8]

theorem cats_eq (hs : tt V0 = aS m ρ c) (hg : rG V0 = aG m ρ c) : best V0 = outC m ρ c := by
  funext j
  have hj : j = ix1 (j 0) := ValueIdx.eq_ix1 j
  rw [hj]
  refine (best_catZ V0 _).trans ?_
  rw [hs, hg]
  exact (outC_at m ρ c _).symm

theorem poss_eq (hs : tt V0 = aS m ρ c) (hg : rG V0 = aG m ρ c) (h0 : rX V0 = aX m ρ c) (h2 : locs V0 = aL m ρ c) (h3 : covs V0 = aC m ρ c) :
    refX V0 = outX m ρ c := by
  have key : ∀ (n : Fin 1000000) (d : Fin 2), refX V0 (ix2 n d) = outX m ρ c (ix2 n d) := by
    intro n d
    fin_cases d
    · refine (refX_at0 V0 n).trans ?_
      rw [hs, hg, h0, h2, h3]
      exact (outX_at0 m ρ c n).symm
    · refine (refX_at1 V0 n).trans ?_
      rw [hs, hg, h0, h2, h3]
      exact (outX_at1 m ρ c n).symm
  funext j
  have hj : j = ix2 (j 0) (j 1) := ValueIdx.eq_ix2 j
  rw [hj]
  exact key (j 0) (j 1)

end Cert.Agree
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
public import Idealize.ShloMosaic.Lib.Claim
public import proofs.«01_k».proof.Proof.Agree

@[expose] public section

open Idealize.ShloMosaic in
/-- The reference changes no argument and leaves every counter at zero. -/
theorem Cert.Proof.reference_quiet : Cert.quiescent_ReferenceIdeal (hReferenceIdeal := Cert.ReferenceIdeal.Gen.facts) := fun m ρ _ =>
  (θ_run Cert.ReferenceIdeal.defs _ _).mono (fun r h => ⟨fun c =>
    ⟨(h c).2.2.2.2.2.1, (h c).2.2.2.2.2.2.1, (h c).2.2.2.2.2.2.2.1, (h c).2.2.2.2.2.2.2.2.1, (h c).2.2.2.2.2.2.2.2.2.1,
      (h c).2.2.2.2.2.2.2.2.2.2.1, (h c).2.2.2.2.2.2.2.2.2.2.2.1, (h c).2.2.2.2.2.2.2.2.2.2.2.2.1, (h c).2.2.2.2.2.2.2.2.2.2.2.2.2.1,
      (h c).2.2.2.2.2.2.2.2.2.2.2.2.2.2⟩, sem_eq_zero_of_no_sems (by decide) r.2⟩)
    (Cert.ReferenceIdeal.Value.run (F := Ideal) m ρ)

open Idealize.ShloMosaic in
/-- From equal arguments the two programs end with equal results. -/
theorem Cert.Proof.equal_results : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Gen.W5 m g c (Proc.devRef .tc Cert.KernelIdeal.main_v366), fun c => Cert.KernelIdeal.Gen.W5 m g c (Proc.devRef .tc Cert.KernelIdeal.main_v367),
    fun c => m ((c.tc : Thread Cert.KernelIdeal.nD Cert.KernelIdeal.τ).loc Cert.KernelIdeal.main_arg1), fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3), ?_, ?_⟩
  · refine (θ_run Cert.KernelIdeal.defs _ _).mono (fun r h c => ?_) (Cert.KernelIdeal.Val.kernel_run m g)
    obtain ⟨hx, hz, h0, h1, h2, h3, h4, h5, h6, h7, h8, h9⟩ := h c
    exact ⟨hx, hz, h1, h2, h3, h0, h1, h2, h3, h4, h5, h6, h7, h8, h9⟩
  · refine (θ_run Cert.ReferenceIdeal.defs _ _).mono (fun r h c => ?_) (Cert.ReferenceIdeal.Value.run (F := Ideal) m' g')
    obtain ⟨a0, a1, a2, a3, a4, a5, a6, a7, a8, a9⟩ := hagree c
    obtain ⟨hx, hz, _, _, _, h0, h1, h2, h3, h4, h5, h6, h7, h8, h9⟩ := h c
    have hs := Cert.Agree.step_eq m g c (StableHlo.launchContents m' c) a9
    have hg := Cert.Agree.logs_eq m g c (StableHlo.launchContents m' c) a4 a5 a6 a7 a8
    exact ⟨hx.trans (Cert.Agree.poss_eq m g c _ hs hg a0 a2 a3), hz.trans (Cert.Agree.cats_eq m g c _ hs hg), h1.trans a1, h2.trans a2, h3.trans a3,
      h0, h1, h2, h3, h4, h5, h6, h7, h8, h9⟩

theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Proof.reference_quiet, trivial, Cert.Proof.equal_results⟩
